-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S65536x1024 : Shape := ⟨2, ![65536, 1024]⟩
abbrev S4x2048x1024 : Shape := ⟨3, ![4, 2048, 1024]⟩
abbrev S4 : Shape := ⟨1, ![4]⟩
abbrev S38 : Shape := ⟨1, ![38]⟩
abbrev S_ : Shape := ⟨0, ![]⟩
abbrev S1 : Shape := ⟨1, ![1]⟩
abbrev S128x1024 : Shape := ⟨2, ![128, 1024]⟩
abbrev S512x1024 : Shape := ⟨2, ![512, 1024]⟩
abbrev S1x2048x1024 : Shape := ⟨3, ![1, 2048, 1024]⟩
abbrev S2048x1024 : Shape := ⟨2, ![2048, 1024]⟩

abbrev nBuf : Space → Nat
  | .hbm => 2
  | .vmem => 1
  | .smem => 0
  | _ => 0

abbrev bufTy : (tb : Table) → Fin (tcTables nBuf tb) → BufTy
  | .hbm, ⟨0, _⟩ => ⟨S32768x1024, .f32⟩
  | .hbm, ⟨1, _⟩ => ⟨S65536x1024, .f32⟩
  | .local _ .vmem, ⟨0, _⟩ => ⟨S4x2048x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 160 → Bool
  | ⟨i, _⟩ => dmaSemScopedAt i

abbrev sig : RefSig :=
  (ofTc nBuf bufTy 1 160 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_10 : BitVec 32 := 1#32
  let v16 : BitVec 32 := Scalar.muli v9 c1_i32_10
  let v17 : BitVec 32 := Scalar.addi v15 v16
  v17.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c32768_i32 : BitVec 32 := 32768#32
  let v7 : BitVec 32 := Scalar.muli v2 c32768_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v18 : BitVec 32 := Scalar.muli v5 c16384_i32
  let v19 : BitVec 32 := Scalar.addi v18 c0_i32_12
  let v20 : BitVec 32 := Scalar.addi v7 v19
  let c0_i32_18 : BitVec 32 := 0#32
  ![v20.toNat, 0]
def k0_off1_at (r : Fin 8) : BitVec 32 :=
  if r.val < 4 then
    if r.val < 2 then
      if r.val < 1 then
        0#32
      else
        128#32
    else
      if r.val < 3 then
        256#32
      else
        384#32
  else
    if r.val < 6 then
      if r.val < 5 then
        15872#32
      else
        16000#32
    else
      if r.val < 7 then
        16128#32
      else
        16256#32
def k0_off2 (d0 : Dev nD) (c0_i32_12 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32 : BitVec 32 := 16384#32
  let v18 : BitVec 32 := Scalar.muli v5 c16384_i32
  let v19 : BitVec 32 := Scalar.addi v18 c0_i32_12
  let c0_i32_19 : BitVec 32 := 0#32
  ![v19.toNat, 0]
def k0_off2_at (r : Fin 8) : BitVec 32 :=
  if r.val < 4 then
    if r.val < 2 then
      if r.val < 1 then
        0#32
      else
        128#32
    else
      if r.val < 3 then
        256#32
      else
        384#32
  else
    if r.val < 6 then
      if r.val < 5 then
        15872#32
      else
        16000#32
    else
      if r.val < 7 then
        16128#32
      else
        16256#32
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v21 : BitVec 32 := Scalar.muli v6 c2_i32_15
  let v22 : BitVec 32 := Scalar.addi c0_i32_16 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v23 : BitVec 32 := Scalar.muli v5 c1_i32_17
  let v24 : BitVec 32 := Scalar.addi v22 v23
  v24.toNat
def k0_dev4 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v34 : BitVec 32 := Scalar.muli v6 c2_i32_23
  let v35 : BitVec 32 := Scalar.addi c0_i32_24 v34
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v36 : BitVec 32 := Scalar.muli v5 c1_i32_25
  let v37 : BitVec 32 := Scalar.addi v35 v36
  v37.toNat
def k0_dev5 (d0 : Dev nD) : Nat :=
  let c0_i32_32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_31 : BitVec 32 := 2#32
  let v47 : BitVec 32 := Scalar.muli v6 c2_i32_31
  let v48 : BitVec 32 := Scalar.addi c0_i32_32 v47
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v49 : BitVec 32 := Scalar.muli v5 c1_i32_33
  let v50 : BitVec 32 := Scalar.addi v48 v49
  v50.toNat
def k0_dev6 (d0 : Dev nD) : Nat :=
  let c0_i32_39 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_38 : BitVec 32 := 2#32
  let v60 : BitVec 32 := Scalar.muli v6 c2_i32_38
  let v61 : BitVec 32 := Scalar.addi c0_i32_39 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_40 : BitVec 32 := 1#32
  let v62 : BitVec 32 := Scalar.muli v5 c1_i32_40
  let v63 : BitVec 32 := Scalar.addi v61 v62
  v63.toNat
def k0_off3 (d0 : Dev nD) (c512_i32 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c32768_i32 : BitVec 32 := 32768#32
  let v7 : BitVec 32 := Scalar.muli v2 c32768_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_43 : BitVec 32 := 16384#32
  let v70 : BitVec 32 := Scalar.muli v5 c16384_i32_43
  let v71 : BitVec 32 := Scalar.addi v70 c512_i32
  let v72 : BitVec 32 := Scalar.addi v7 v71
  let c0_i32_48 : BitVec 32 := 0#32
  ![v72.toNat, 0]
def k0_off4 (d0 : Dev nD) (c512_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_43 : BitVec 32 := 16384#32
  let v70 : BitVec 32 := Scalar.muli v5 c16384_i32_43
  let v71 : BitVec 32 := Scalar.addi v70 c512_i32
  let c0_i32_49 : BitVec 32 := 0#32
  ![v71.toNat, 0]
def k0_dev7 (d0 : Dev nD) : Nat :=
  let c0_i32_46 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_45 : BitVec 32 := 2#32
  let v73 : BitVec 32 := Scalar.muli v6 c2_i32_45
  let v74 : BitVec 32 := Scalar.addi c0_i32_46 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_47 : BitVec 32 := 1#32
  let v75 : BitVec 32 := Scalar.muli v5 c1_i32_47
  let v76 : BitVec 32 := Scalar.addi v74 v75
  v76.toNat
def k0_dev8 (d0 : Dev nD) : Nat :=
  let c0_i32_53 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_52 : BitVec 32 := 2#32
  let v86 : BitVec 32 := Scalar.muli v6 c2_i32_52
  let v87 : BitVec 32 := Scalar.addi c0_i32_53 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_54 : BitVec 32 := 1#32
  let v88 : BitVec 32 := Scalar.muli v5 c1_i32_54
  let v89 : BitVec 32 := Scalar.addi v87 v88
  v89.toNat
def k0_dev9 (d0 : Dev nD) : Nat :=
  let c0_i32_60 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_59 : BitVec 32 := 2#32
  let v99 : BitVec 32 := Scalar.muli v6 c2_i32_59
  let v100 : BitVec 32 := Scalar.addi c0_i32_60 v99
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v101 : BitVec 32 := Scalar.muli v5 c1_i32_61
  let v102 : BitVec 32 := Scalar.addi v100 v101
  v102.toNat
def k0_dev10 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v112 : BitVec 32 := Scalar.muli v6 c2_i32_66
  let v113 : BitVec 32 := Scalar.addi c0_i32_67 v112
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v114 : BitVec 32 := Scalar.muli v5 c1_i32_68
  let v115 : BitVec 32 := Scalar.addi v113 v114
  v115.toNat
def k0_dev11 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v125 : BitVec 32 := Scalar.muli v6 c2_i32_73
  let v126 : BitVec 32 := Scalar.addi c0_i32_74 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v127 : BitVec 32 := Scalar.muli v5 c1_i32_75
  let v128 : BitVec 32 := Scalar.addi v126 v127
  v128.toNat
def k0_dev12 (d0 : Dev nD) : Nat :=
  let c0_i32_81 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_80 : BitVec 32 := 2#32
  let v138 : BitVec 32 := Scalar.muli v6 c2_i32_80
  let v139 : BitVec 32 := Scalar.addi c0_i32_81 v138
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_82 : BitVec 32 := 1#32
  let v140 : BitVec 32 := Scalar.muli v5 c1_i32_82
  let v141 : BitVec 32 := Scalar.addi v139 v140
  v141.toNat
def k0_dev13 (d0 : Dev nD) : Nat :=
  let c0_i32_88 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_87 : BitVec 32 := 2#32
  let v151 : BitVec 32 := Scalar.muli v6 c2_i32_87
  let v152 : BitVec 32 := Scalar.addi c0_i32_88 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v153 : BitVec 32 := Scalar.muli v5 c1_i32_89
  let v154 : BitVec 32 := Scalar.addi v152 v153
  v154.toNat
def k0_dev14 (d0 : Dev nD) : Nat :=
  let c0_i32_95 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_94 : BitVec 32 := 2#32
  let v164 : BitVec 32 := Scalar.muli v6 c2_i32_94
  let v165 : BitVec 32 := Scalar.addi c0_i32_95 v164
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_96 : BitVec 32 := 1#32
  let v166 : BitVec 32 := Scalar.muli v5 c1_i32_96
  let v167 : BitVec 32 := Scalar.addi v165 v166
  v167.toNat
def k0_dev15 (d0 : Dev nD) : Nat :=
  let c0_i32_102 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_101 : BitVec 32 := 2#32
  let v177 : BitVec 32 := Scalar.muli v6 c2_i32_101
  let v178 : BitVec 32 := Scalar.addi c0_i32_102 v177
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_103 : BitVec 32 := 1#32
  let v179 : BitVec 32 := Scalar.muli v5 c1_i32_103
  let v180 : BitVec 32 := Scalar.addi v178 v179
  v180.toNat
def k0_dev16 (d0 : Dev nD) : Nat :=
  let c0_i32_109 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_108 : BitVec 32 := 2#32
  let v190 : BitVec 32 := Scalar.muli v6 c2_i32_108
  let v191 : BitVec 32 := Scalar.addi c0_i32_109 v190
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_110 : BitVec 32 := 1#32
  let v192 : BitVec 32 := Scalar.muli v5 c1_i32_110
  let v193 : BitVec 32 := Scalar.addi v191 v192
  v193.toNat
def k0_dev17 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v203 : BitVec 32 := Scalar.muli v6 c2_i32_115
  let v204 : BitVec 32 := Scalar.addi c0_i32_116 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v205 : BitVec 32 := Scalar.muli v5 c1_i32_117
  let v206 : BitVec 32 := Scalar.addi v204 v205
  v206.toNat
def k0_dev18 (d0 : Dev nD) : Nat :=
  let c0_i32_123 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122 : BitVec 32 := 2#32
  let v216 : BitVec 32 := Scalar.muli v6 c2_i32_122
  let v217 : BitVec 32 := Scalar.addi c0_i32_123 v216
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v218 : BitVec 32 := Scalar.muli v5 c1_i32_124
  let v219 : BitVec 32 := Scalar.addi v217 v218
  v219.toNat
def k0_dev19 (d0 : Dev nD) : Nat :=
  let c0_i32_130 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_129 : BitVec 32 := 2#32
  let v229 : BitVec 32 := Scalar.muli v6 c2_i32_129
  let v230 : BitVec 32 := Scalar.addi c0_i32_130 v229
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_131 : BitVec 32 := 1#32
  let v231 : BitVec 32 := Scalar.muli v5 c1_i32_131
  let v232 : BitVec 32 := Scalar.addi v230 v231
  v232.toNat
def k0_dev20 (d0 : Dev nD) : Nat :=
  let c0_i32_137 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_136 : BitVec 32 := 2#32
  let v242 : BitVec 32 := Scalar.muli v6 c2_i32_136
  let v243 : BitVec 32 := Scalar.addi c0_i32_137 v242
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_138 : BitVec 32 := 1#32
  let v244 : BitVec 32 := Scalar.muli v5 c1_i32_138
  let v245 : BitVec 32 := Scalar.addi v243 v244
  v245.toNat
def k0_dev21 (d0 : Dev nD) : Nat :=
  let c0_i32_144 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_143 : BitVec 32 := 2#32
  let v255 : BitVec 32 := Scalar.muli v6 c2_i32_143
  let v256 : BitVec 32 := Scalar.addi c0_i32_144 v255
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_145 : BitVec 32 := 1#32
  let v257 : BitVec 32 := Scalar.muli v5 c1_i32_145
  let v258 : BitVec 32 := Scalar.addi v256 v257
  v258.toNat
def k0_dev22 (d0 : Dev nD) : Nat :=
  let c0_i32_151 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_150 : BitVec 32 := 2#32
  let v268 : BitVec 32 := Scalar.muli v6 c2_i32_150
  let v269 : BitVec 32 := Scalar.addi c0_i32_151 v268
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_152 : BitVec 32 := 1#32
  let v270 : BitVec 32 := Scalar.muli v5 c1_i32_152
  let v271 : BitVec 32 := Scalar.addi v269 v270
  v271.toNat
def k0_dev23 (d0 : Dev nD) : Nat :=
  let c0_i32_158 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_157 : BitVec 32 := 2#32
  let v281 : BitVec 32 := Scalar.muli v6 c2_i32_157
  let v282 : BitVec 32 := Scalar.addi c0_i32_158 v281
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_159 : BitVec 32 := 1#32
  let v283 : BitVec 32 := Scalar.muli v5 c1_i32_159
  let v284 : BitVec 32 := Scalar.addi v282 v283
  v284.toNat
def k0_dev24 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v294 : BitVec 32 := Scalar.muli v6 c2_i32_164
  let v295 : BitVec 32 := Scalar.addi c0_i32_165 v294
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v296 : BitVec 32 := Scalar.muli v5 c1_i32_166
  let v297 : BitVec 32 := Scalar.addi v295 v296
  v297.toNat
def k0_dev25 (d0 : Dev nD) : Nat :=
  let c0_i32_172 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_171 : BitVec 32 := 2#32
  let v307 : BitVec 32 := Scalar.muli v6 c2_i32_171
  let v308 : BitVec 32 := Scalar.addi c0_i32_172 v307
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_173 : BitVec 32 := 1#32
  let v309 : BitVec 32 := Scalar.muli v5 c1_i32_173
  let v310 : BitVec 32 := Scalar.addi v308 v309
  v310.toNat
def k0_dev26 (d0 : Dev nD) : Nat :=
  let c0_i32_179 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_178 : BitVec 32 := 2#32
  let v320 : BitVec 32 := Scalar.muli v6 c2_i32_178
  let v321 : BitVec 32 := Scalar.addi c0_i32_179 v320
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v322 : BitVec 32 := Scalar.muli v5 c1_i32_180
  let v323 : BitVec 32 := Scalar.addi v321 v322
  v323.toNat
def k0_dev27 (d0 : Dev nD) : Nat :=
  let c0_i32_186 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_185 : BitVec 32 := 2#32
  let v333 : BitVec 32 := Scalar.muli v6 c2_i32_185
  let v334 : BitVec 32 := Scalar.addi c0_i32_186 v333
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_187 : BitVec 32 := 1#32
  let v335 : BitVec 32 := Scalar.muli v5 c1_i32_187
  let v336 : BitVec 32 := Scalar.addi v334 v335
  v336.toNat
def k0_dev28 (d0 : Dev nD) : Nat :=
  let c0_i32_193 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_192 : BitVec 32 := 2#32
  let v346 : BitVec 32 := Scalar.muli v6 c2_i32_192
  let v347 : BitVec 32 := Scalar.addi c0_i32_193 v346
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v348 : BitVec 32 := Scalar.muli v5 c1_i32_194
  let v349 : BitVec 32 := Scalar.addi v347 v348
  v349.toNat
def k0_dev29 (d0 : Dev nD) : Nat :=
  let c0_i32_200 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_199 : BitVec 32 := 2#32
  let v359 : BitVec 32 := Scalar.muli v6 c2_i32_199
  let v360 : BitVec 32 := Scalar.addi c0_i32_200 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_201 : BitVec 32 := 1#32
  let v361 : BitVec 32 := Scalar.muli v5 c1_i32_201
  let v362 : BitVec 32 := Scalar.addi v360 v361
  v362.toNat
def k0_dev30 (d0 : Dev nD) : Nat :=
  let c0_i32_207 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_206 : BitVec 32 := 2#32
  let v372 : BitVec 32 := Scalar.muli v6 c2_i32_206
  let v373 : BitVec 32 := Scalar.addi c0_i32_207 v372
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_208 : BitVec 32 := 1#32
  let v374 : BitVec 32 := Scalar.muli v5 c1_i32_208
  let v375 : BitVec 32 := Scalar.addi v373 v374
  v375.toNat
def k0_dev31 (d0 : Dev nD) : Nat :=
  let c0_i32_214 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_213 : BitVec 32 := 2#32
  let v385 : BitVec 32 := Scalar.muli v6 c2_i32_213
  let v386 : BitVec 32 := Scalar.addi c0_i32_214 v385
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_215 : BitVec 32 := 1#32
  let v387 : BitVec 32 := Scalar.muli v5 c1_i32_215
  let v388 : BitVec 32 := Scalar.addi v386 v387
  v388.toNat
def k0_dev32 (d0 : Dev nD) : Nat :=
  let c0_i32_221 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_220 : BitVec 32 := 2#32
  let v398 : BitVec 32 := Scalar.muli v6 c2_i32_220
  let v399 : BitVec 32 := Scalar.addi c0_i32_221 v398
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v400 : BitVec 32 := Scalar.muli v5 c1_i32_222
  let v401 : BitVec 32 := Scalar.addi v399 v400
  v401.toNat
def k0_dev33 (d0 : Dev nD) : Nat :=
  let c0_i32_228 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_227 : BitVec 32 := 2#32
  let v411 : BitVec 32 := Scalar.muli v6 c2_i32_227
  let v412 : BitVec 32 := Scalar.addi c0_i32_228 v411
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_229 : BitVec 32 := 1#32
  let v413 : BitVec 32 := Scalar.muli v5 c1_i32_229
  let v414 : BitVec 32 := Scalar.addi v412 v413
  v414.toNat
def k0_dev34 (d0 : Dev nD) : Nat :=
  let c0_i32_235 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_234 : BitVec 32 := 2#32
  let v424 : BitVec 32 := Scalar.muli v6 c2_i32_234
  let v425 : BitVec 32 := Scalar.addi c0_i32_235 v424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v426 : BitVec 32 := Scalar.muli v5 c1_i32_236
  let v427 : BitVec 32 := Scalar.addi v425 v426
  v427.toNat
def k0_dev35 (d0 : Dev nD) : Nat :=
  let c0_i32_242 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_241 : BitVec 32 := 2#32
  let v437 : BitVec 32 := Scalar.muli v6 c2_i32_241
  let v438 : BitVec 32 := Scalar.addi c0_i32_242 v437
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_243 : BitVec 32 := 1#32
  let v439 : BitVec 32 := Scalar.muli v5 c1_i32_243
  let v440 : BitVec 32 := Scalar.addi v438 v439
  v440.toNat
def k0_dev36 (d0 : Dev nD) : Nat :=
  let c0_i32_249 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_248 : BitVec 32 := 2#32
  let v450 : BitVec 32 := Scalar.muli v6 c2_i32_248
  let v451 : BitVec 32 := Scalar.addi c0_i32_249 v450
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_250 : BitVec 32 := 1#32
  let v452 : BitVec 32 := Scalar.muli v5 c1_i32_250
  let v453 : BitVec 32 := Scalar.addi v451 v452
  v453.toNat
def k0_dev37 (d0 : Dev nD) : Nat :=
  let c0_i32_256 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_255 : BitVec 32 := 2#32
  let v463 : BitVec 32 := Scalar.muli v6 c2_i32_255
  let v464 : BitVec 32 := Scalar.addi c0_i32_256 v463
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_257 : BitVec 32 := 1#32
  let v465 : BitVec 32 := Scalar.muli v5 c1_i32_257
  let v466 : BitVec 32 := Scalar.addi v464 v465
  v466.toNat
def k0_dev38 (d0 : Dev nD) : Nat :=
  let c0_i32_263 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_262 : BitVec 32 := 2#32
  let v476 : BitVec 32 := Scalar.muli v6 c2_i32_262
  let v477 : BitVec 32 := Scalar.addi c0_i32_263 v476
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_264 : BitVec 32 := 1#32
  let v478 : BitVec 32 := Scalar.muli v5 c1_i32_264
  let v479 : BitVec 32 := Scalar.addi v477 v478
  v479.toNat
def k0_dev39 (d0 : Dev nD) : Nat :=
  let c0_i32_270 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_269 : BitVec 32 := 2#32
  let v489 : BitVec 32 := Scalar.muli v6 c2_i32_269
  let v490 : BitVec 32 := Scalar.addi c0_i32_270 v489
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v491 : BitVec 32 := Scalar.muli v5 c1_i32_271
  let v492 : BitVec 32 := Scalar.addi v490 v491
  v492.toNat
def k0_dev40 (d0 : Dev nD) : Nat :=
  let c0_i32_277 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_276 : BitVec 32 := 2#32
  let v502 : BitVec 32 := Scalar.muli v6 c2_i32_276
  let v503 : BitVec 32 := Scalar.addi c0_i32_277 v502
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_278 : BitVec 32 := 1#32
  let v504 : BitVec 32 := Scalar.muli v5 c1_i32_278
  let v505 : BitVec 32 := Scalar.addi v503 v504
  v505.toNat
def k0_off5 (d0 : Dev nD) (c0_i32_290 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c32768_i32_288 : BitVec 32 := 32768#32
  let v520 : BitVec 32 := Scalar.muli v6 c32768_i32_288
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_289 : BitVec 32 := 16384#32
  let v521 : BitVec 32 := Scalar.muli v5 c16384_i32_289
  let v522 : BitVec 32 := Scalar.addi v520 v521
  let v523 : BitVec 32 := Scalar.addi v522 c0_i32_290
  let c0_i32_297 : BitVec 32 := 0#32
  ![v523.toNat, 0]
def k0_off5_at (r : Fin 8) : BitVec 32 :=
  if r.val < 4 then
    if r.val < 2 then
      if r.val < 1 then
        0#32
      else
        128#32
    else
      if r.val < 3 then
        256#32
      else
        384#32
  else
    if r.val < 6 then
      if r.val < 5 then
        15872#32
      else
        16000#32
    else
      if r.val < 7 then
        16128#32
      else
        16256#32
def k0_dev41 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v525 : BitVec 32 := Scalar.muli v2 c2_i32_294
  let v526 : BitVec 32 := Scalar.addi c0_i32_295 v525
  let c1_i32_291 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v524 : BitVec 32 := Scalar.subi c1_i32_291 v5
  let c1_i32_296 : BitVec 32 := 1#32
  let v527 : BitVec 32 := Scalar.muli v524 c1_i32_296
  let v528 : BitVec 32 := Scalar.addi v526 v527
  v528.toNat
def k0_dev42 (d0 : Dev nD) : Nat :=
  let c0_i32_319 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_318 : BitVec 32 := 2#32
  let v553 : BitVec 32 := Scalar.muli v2 c2_i32_318
  let v554 : BitVec 32 := Scalar.addi c0_i32_319 v553
  let c1_i32_315 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v552 : BitVec 32 := Scalar.subi c1_i32_315 v5
  let c1_i32_320 : BitVec 32 := 1#32
  let v555 : BitVec 32 := Scalar.muli v552 c1_i32_320
  let v556 : BitVec 32 := Scalar.addi v554 v555
  v556.toNat
def k0_off6 (d0 : Dev nD) (c0_i32_335 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c32768_i32 : BitVec 32 := 32768#32
  let v7 : BitVec 32 := Scalar.muli v2 c32768_i32
  let v573 : BitVec 32 := Scalar.addi v7 c0_i32_335
  let c0_i32_338 : BitVec 32 := 0#32
  ![v573.toNat, 0]
def k0_dev43 (d0 : Dev nD) : Nat :=
  let c0_i32_355 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_354 : BitVec 32 := 2#32
  let v592 : BitVec 32 := Scalar.muli v2 c2_i32_354
  let v593 : BitVec 32 := Scalar.addi c0_i32_355 v592
  let c1_i32_351 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v591 : BitVec 32 := Scalar.subi c1_i32_351 v5
  let c1_i32_356 : BitVec 32 := 1#32
  let v594 : BitVec 32 := Scalar.muli v591 c1_i32_356
  let v595 : BitVec 32 := Scalar.addi v593 v594
  v595.toNat
def k0_dev44 (d0 : Dev nD) : Nat :=
  let c0_i32_391 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_390 : BitVec 32 := 2#32
  let v631 : BitVec 32 := Scalar.muli v2 c2_i32_390
  let v632 : BitVec 32 := Scalar.addi c0_i32_391 v631
  let c1_i32_387 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v630 : BitVec 32 := Scalar.subi c1_i32_387 v5
  let c1_i32_392 : BitVec 32 := 1#32
  let v633 : BitVec 32 := Scalar.muli v630 c1_i32_392
  let v634 : BitVec 32 := Scalar.addi v632 v633
  v634.toNat
def k0_off7 (d0 : Dev nD) (c512_i32_422 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c32768_i32_420 : BitVec 32 := 32768#32
  let v665 : BitVec 32 := Scalar.muli v6 c32768_i32_420
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c16384_i32_421 : BitVec 32 := 16384#32
  let v666 : BitVec 32 := Scalar.muli v5 c16384_i32_421
  let v667 : BitVec 32 := Scalar.addi v665 v666
  let v668 : BitVec 32 := Scalar.addi v667 c512_i32_422
  let c0_i32_429 : BitVec 32 := 0#32
  ![v668.toNat, 0]
def k0_dev45 (d0 : Dev nD) : Nat :=
  let c0_i32_427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_426 : BitVec 32 := 2#32
  let v670 : BitVec 32 := Scalar.muli v2 c2_i32_426
  let v671 : BitVec 32 := Scalar.addi c0_i32_427 v670
  let c1_i32_423 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v669 : BitVec 32 := Scalar.subi c1_i32_423 v5
  let c1_i32_428 : BitVec 32 := 1#32
  let v672 : BitVec 32 := Scalar.muli v669 c1_i32_428
  let v673 : BitVec 32 := Scalar.addi v671 v672
  v673.toNat
def k0_dev46 (d0 : Dev nD) : Nat :=
  let c0_i32_468 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_467 : BitVec 32 := 2#32
  let v714 : BitVec 32 := Scalar.muli v2 c2_i32_467
  let v715 : BitVec 32 := Scalar.addi c0_i32_468 v714
  let c1_i32_464 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v713 : BitVec 32 := Scalar.subi c1_i32_464 v5
  let c1_i32_469 : BitVec 32 := 1#32
  let v716 : BitVec 32 := Scalar.muli v713 c1_i32_469
  let v717 : BitVec 32 := Scalar.addi v715 v716
  v717.toNat
def k0_dev47 (d0 : Dev nD) : Nat :=
  let c0_i32_509 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_508 : BitVec 32 := 2#32
  let v758 : BitVec 32 := Scalar.muli v2 c2_i32_508
  let v759 : BitVec 32 := Scalar.addi c0_i32_509 v758
  let c1_i32_505 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v757 : BitVec 32 := Scalar.subi c1_i32_505 v5
  let c1_i32_510 : BitVec 32 := 1#32
  let v760 : BitVec 32 := Scalar.muli v757 c1_i32_510
  let v761 : BitVec 32 := Scalar.addi v759 v760
  v761.toNat
def k0_dev48 (d0 : Dev nD) : Nat :=
  let c0_i32_550 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_549 : BitVec 32 := 2#32
  let v802 : BitVec 32 := Scalar.muli v2 c2_i32_549
  let v803 : BitVec 32 := Scalar.addi c0_i32_550 v802
  let c1_i32_546 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v801 : BitVec 32 := Scalar.subi c1_i32_546 v5
  let c1_i32_551 : BitVec 32 := 1#32
  let v804 : BitVec 32 := Scalar.muli v801 c1_i32_551
  let v805 : BitVec 32 := Scalar.addi v803 v804
  v805.toNat
def k0_dev49 (d0 : Dev nD) : Nat :=
  let c0_i32_591 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_590 : BitVec 32 := 2#32
  let v846 : BitVec 32 := Scalar.muli v2 c2_i32_590
  let v847 : BitVec 32 := Scalar.addi c0_i32_591 v846
  let c1_i32_587 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v845 : BitVec 32 := Scalar.subi c1_i32_587 v5
  let c1_i32_592 : BitVec 32 := 1#32
  let v848 : BitVec 32 := Scalar.muli v845 c1_i32_592
  let v849 : BitVec 32 := Scalar.addi v847 v848
  v849.toNat
def k0_dev50 (d0 : Dev nD) : Nat :=
  let c0_i32_632 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_631 : BitVec 32 := 2#32
  let v890 : BitVec 32 := Scalar.muli v2 c2_i32_631
  let v891 : BitVec 32 := Scalar.addi c0_i32_632 v890
  let c1_i32_628 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v889 : BitVec 32 := Scalar.subi c1_i32_628 v5
  let c1_i32_633 : BitVec 32 := 1#32
  let v892 : BitVec 32 := Scalar.muli v889 c1_i32_633
  let v893 : BitVec 32 := Scalar.addi v891 v892
  v893.toNat
def k0_dev51 (d0 : Dev nD) : Nat :=
  let c0_i32_672 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_671 : BitVec 32 := 2#32
  let v934 : BitVec 32 := Scalar.muli v2 c2_i32_671
  let v935 : BitVec 32 := Scalar.addi c0_i32_672 v934
  let c1_i32_668 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v933 : BitVec 32 := Scalar.subi c1_i32_668 v5
  let c1_i32_673 : BitVec 32 := 1#32
  let v936 : BitVec 32 := Scalar.muli v933 c1_i32_673
  let v937 : BitVec 32 := Scalar.addi v935 v936
  v937.toNat
def k0_dev52 (d0 : Dev nD) : Nat :=
  let c0_i32_712 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_711 : BitVec 32 := 2#32
  let v978 : BitVec 32 := Scalar.muli v2 c2_i32_711
  let v979 : BitVec 32 := Scalar.addi c0_i32_712 v978
  let c1_i32_708 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v977 : BitVec 32 := Scalar.subi c1_i32_708 v5
  let c1_i32_713 : BitVec 32 := 1#32
  let v980 : BitVec 32 := Scalar.muli v977 c1_i32_713
  let v981 : BitVec 32 := Scalar.addi v979 v980
  v981.toNat
def k0_dev53 (d0 : Dev nD) : Nat :=
  let c0_i32_752 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_751 : BitVec 32 := 2#32
  let v1022 : BitVec 32 := Scalar.muli v2 c2_i32_751
  let v1023 : BitVec 32 := Scalar.addi c0_i32_752 v1022
  let c1_i32_748 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1021 : BitVec 32 := Scalar.subi c1_i32_748 v5
  let c1_i32_753 : BitVec 32 := 1#32
  let v1024 : BitVec 32 := Scalar.muli v1021 c1_i32_753
  let v1025 : BitVec 32 := Scalar.addi v1023 v1024
  v1025.toNat
def k0_dev54 (d0 : Dev nD) : Nat :=
  let c0_i32_792 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_791 : BitVec 32 := 2#32
  let v1066 : BitVec 32 := Scalar.muli v2 c2_i32_791
  let v1067 : BitVec 32 := Scalar.addi c0_i32_792 v1066
  let c1_i32_788 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1065 : BitVec 32 := Scalar.subi c1_i32_788 v5
  let c1_i32_793 : BitVec 32 := 1#32
  let v1068 : BitVec 32 := Scalar.muli v1065 c1_i32_793
  let v1069 : BitVec 32 := Scalar.addi v1067 v1068
  v1069.toNat
def k0_dev55 (d0 : Dev nD) : Nat :=
  let c0_i32_832 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_831 : BitVec 32 := 2#32
  let v1110 : BitVec 32 := Scalar.muli v2 c2_i32_831
  let v1111 : BitVec 32 := Scalar.addi c0_i32_832 v1110
  let c1_i32_828 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1109 : BitVec 32 := Scalar.subi c1_i32_828 v5
  let c1_i32_833 : BitVec 32 := 1#32
  let v1112 : BitVec 32 := Scalar.muli v1109 c1_i32_833
  let v1113 : BitVec 32 := Scalar.addi v1111 v1112
  v1113.toNat
def k0_dev56 (d0 : Dev nD) : Nat :=
  let c0_i32_872 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_871 : BitVec 32 := 2#32
  let v1154 : BitVec 32 := Scalar.muli v2 c2_i32_871
  let v1155 : BitVec 32 := Scalar.addi c0_i32_872 v1154
  let c1_i32_868 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1153 : BitVec 32 := Scalar.subi c1_i32_868 v5
  let c1_i32_873 : BitVec 32 := 1#32
  let v1156 : BitVec 32 := Scalar.muli v1153 c1_i32_873
  let v1157 : BitVec 32 := Scalar.addi v1155 v1156
  v1157.toNat
def k0_dev57 (d0 : Dev nD) : Nat :=
  let c0_i32_912 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_911 : BitVec 32 := 2#32
  let v1198 : BitVec 32 := Scalar.muli v2 c2_i32_911
  let v1199 : BitVec 32 := Scalar.addi c0_i32_912 v1198
  let c1_i32_908 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1197 : BitVec 32 := Scalar.subi c1_i32_908 v5
  let c1_i32_913 : BitVec 32 := 1#32
  let v1200 : BitVec 32 := Scalar.muli v1197 c1_i32_913
  let v1201 : BitVec 32 := Scalar.addi v1199 v1200
  v1201.toNat
def k0_dev58 (d0 : Dev nD) : Nat :=
  let c0_i32_930 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_929 : BitVec 32 := 2#32
  let v1221 : BitVec 32 := Scalar.muli v2 c2_i32_929
  let v1222 : BitVec 32 := Scalar.addi c0_i32_930 v1221
  let c1_i32_926 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1220 : BitVec 32 := Scalar.subi c1_i32_926 v5
  let c1_i32_931 : BitVec 32 := 1#32
  let v1223 : BitVec 32 := Scalar.muli v1220 c1_i32_931
  let v1224 : BitVec 32 := Scalar.addi v1222 v1223
  v1224.toNat
def k0_dev59 (d0 : Dev nD) : Nat :=
  let c0_i32_948 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_947 : BitVec 32 := 2#32
  let v1244 : BitVec 32 := Scalar.muli v2 c2_i32_947
  let v1245 : BitVec 32 := Scalar.addi c0_i32_948 v1244
  let c1_i32_944 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1243 : BitVec 32 := Scalar.subi c1_i32_944 v5
  let c1_i32_949 : BitVec 32 := 1#32
  let v1246 : BitVec 32 := Scalar.muli v1243 c1_i32_949
  let v1247 : BitVec 32 := Scalar.addi v1245 v1246
  v1247.toNat
def k0_dev60 (d0 : Dev nD) : Nat :=
  let c0_i32_966 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_965 : BitVec 32 := 2#32
  let v1267 : BitVec 32 := Scalar.muli v2 c2_i32_965
  let v1268 : BitVec 32 := Scalar.addi c0_i32_966 v1267
  let c1_i32_962 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1266 : BitVec 32 := Scalar.subi c1_i32_962 v5
  let c1_i32_967 : BitVec 32 := 1#32
  let v1269 : BitVec 32 := Scalar.muli v1266 c1_i32_967
  let v1270 : BitVec 32 := Scalar.addi v1268 v1269
  v1270.toNat
def k0_dev61 (d0 : Dev nD) : Nat :=
  let c0_i32_984 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_983 : BitVec 32 := 2#32
  let v1290 : BitVec 32 := Scalar.muli v2 c2_i32_983
  let v1291 : BitVec 32 := Scalar.addi c0_i32_984 v1290
  let c1_i32_980 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1289 : BitVec 32 := Scalar.subi c1_i32_980 v5
  let c1_i32_985 : BitVec 32 := 1#32
  let v1292 : BitVec 32 := Scalar.muli v1289 c1_i32_985
  let v1293 : BitVec 32 := Scalar.addi v1291 v1292
  v1293.toNat
def k0_dev62 (d0 : Dev nD) : Nat :=
  let c0_i32_1002 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1001 : BitVec 32 := 2#32
  let v1313 : BitVec 32 := Scalar.muli v2 c2_i32_1001
  let v1314 : BitVec 32 := Scalar.addi c0_i32_1002 v1313
  let c1_i32_998 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1312 : BitVec 32 := Scalar.subi c1_i32_998 v5
  let c1_i32_1003 : BitVec 32 := 1#32
  let v1315 : BitVec 32 := Scalar.muli v1312 c1_i32_1003
  let v1316 : BitVec 32 := Scalar.addi v1314 v1315
  v1316.toNat
def k0_dev63 (d0 : Dev nD) : Nat :=
  let c0_i32_1020 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1019 : BitVec 32 := 2#32
  let v1336 : BitVec 32 := Scalar.muli v2 c2_i32_1019
  let v1337 : BitVec 32 := Scalar.addi c0_i32_1020 v1336
  let c1_i32_1016 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1335 : BitVec 32 := Scalar.subi c1_i32_1016 v5
  let c1_i32_1021 : BitVec 32 := 1#32
  let v1338 : BitVec 32 := Scalar.muli v1335 c1_i32_1021
  let v1339 : BitVec 32 := Scalar.addi v1337 v1338
  v1339.toNat
def k0_dev64 (d0 : Dev nD) : Nat :=
  let c0_i32_1038 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1037 : BitVec 32 := 2#32
  let v1359 : BitVec 32 := Scalar.muli v2 c2_i32_1037
  let v1360 : BitVec 32 := Scalar.addi c0_i32_1038 v1359
  let c1_i32_1034 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1358 : BitVec 32 := Scalar.subi c1_i32_1034 v5
  let c1_i32_1039 : BitVec 32 := 1#32
  let v1361 : BitVec 32 := Scalar.muli v1358 c1_i32_1039
  let v1362 : BitVec 32 := Scalar.addi v1360 v1361
  v1362.toNat
def k0_dev65 (d0 : Dev nD) : Nat :=
  let c0_i32_1056 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1055 : BitVec 32 := 2#32
  let v1382 : BitVec 32 := Scalar.muli v2 c2_i32_1055
  let v1383 : BitVec 32 := Scalar.addi c0_i32_1056 v1382
  let c1_i32_1052 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1381 : BitVec 32 := Scalar.subi c1_i32_1052 v5
  let c1_i32_1057 : BitVec 32 := 1#32
  let v1384 : BitVec 32 := Scalar.muli v1381 c1_i32_1057
  let v1385 : BitVec 32 := Scalar.addi v1383 v1384
  v1385.toNat
def k0_dev66 (d0 : Dev nD) : Nat :=
  let c0_i32_1074 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1073 : BitVec 32 := 2#32
  let v1405 : BitVec 32 := Scalar.muli v2 c2_i32_1073
  let v1406 : BitVec 32 := Scalar.addi c0_i32_1074 v1405
  let c1_i32_1070 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1404 : BitVec 32 := Scalar.subi c1_i32_1070 v5
  let c1_i32_1075 : BitVec 32 := 1#32
  let v1407 : BitVec 32 := Scalar.muli v1404 c1_i32_1075
  let v1408 : BitVec 32 := Scalar.addi v1406 v1407
  v1408.toNat
def k0_dev67 (d0 : Dev nD) : Nat :=
  let c0_i32_1092 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1091 : BitVec 32 := 2#32
  let v1428 : BitVec 32 := Scalar.muli v2 c2_i32_1091
  let v1429 : BitVec 32 := Scalar.addi c0_i32_1092 v1428
  let c1_i32_1088 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1427 : BitVec 32 := Scalar.subi c1_i32_1088 v5
  let c1_i32_1093 : BitVec 32 := 1#32
  let v1430 : BitVec 32 := Scalar.muli v1427 c1_i32_1093
  let v1431 : BitVec 32 := Scalar.addi v1429 v1430
  v1431.toNat
def k0_dev68 (d0 : Dev nD) : Nat :=
  let c0_i32_1110 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1109 : BitVec 32 := 2#32
  let v1451 : BitVec 32 := Scalar.muli v2 c2_i32_1109
  let v1452 : BitVec 32 := Scalar.addi c0_i32_1110 v1451
  let c1_i32_1106 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1450 : BitVec 32 := Scalar.subi c1_i32_1106 v5
  let c1_i32_1111 : BitVec 32 := 1#32
  let v1453 : BitVec 32 := Scalar.muli v1450 c1_i32_1111
  let v1454 : BitVec 32 := Scalar.addi v1452 v1453
  v1454.toNat
def k0_dev69 (d0 : Dev nD) : Nat :=
  let c0_i32_1128 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1127 : BitVec 32 := 2#32
  let v1474 : BitVec 32 := Scalar.muli v2 c2_i32_1127
  let v1475 : BitVec 32 := Scalar.addi c0_i32_1128 v1474
  let c1_i32_1124 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1473 : BitVec 32 := Scalar.subi c1_i32_1124 v5
  let c1_i32_1129 : BitVec 32 := 1#32
  let v1476 : BitVec 32 := Scalar.muli v1473 c1_i32_1129
  let v1477 : BitVec 32 := Scalar.addi v1475 v1476
  v1477.toNat
def k0_dev70 (d0 : Dev nD) : Nat :=
  let c0_i32_1146 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1145 : BitVec 32 := 2#32
  let v1497 : BitVec 32 := Scalar.muli v2 c2_i32_1145
  let v1498 : BitVec 32 := Scalar.addi c0_i32_1146 v1497
  let c1_i32_1142 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1496 : BitVec 32 := Scalar.subi c1_i32_1142 v5
  let c1_i32_1147 : BitVec 32 := 1#32
  let v1499 : BitVec 32 := Scalar.muli v1496 c1_i32_1147
  let v1500 : BitVec 32 := Scalar.addi v1498 v1499
  v1500.toNat
def k0_dev71 (d0 : Dev nD) : Nat :=
  let c0_i32_1164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1163 : BitVec 32 := 2#32
  let v1520 : BitVec 32 := Scalar.muli v2 c2_i32_1163
  let v1521 : BitVec 32 := Scalar.addi c0_i32_1164 v1520
  let c1_i32_1160 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1519 : BitVec 32 := Scalar.subi c1_i32_1160 v5
  let c1_i32_1165 : BitVec 32 := 1#32
  let v1522 : BitVec 32 := Scalar.muli v1519 c1_i32_1165
  let v1523 : BitVec 32 := Scalar.addi v1521 v1522
  v1523.toNat
def k0_dev72 (d0 : Dev nD) : Nat :=
  let c0_i32_1182 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1181 : BitVec 32 := 2#32
  let v1543 : BitVec 32 := Scalar.muli v2 c2_i32_1181
  let v1544 : BitVec 32 := Scalar.addi c0_i32_1182 v1543
  let c1_i32_1178 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1542 : BitVec 32 := Scalar.subi c1_i32_1178 v5
  let c1_i32_1183 : BitVec 32 := 1#32
  let v1545 : BitVec 32 := Scalar.muli v1542 c1_i32_1183
  let v1546 : BitVec 32 := Scalar.addi v1544 v1545
  v1546.toNat
def k0_dev73 (d0 : Dev nD) : Nat :=
  let c0_i32_1200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1199 : BitVec 32 := 2#32
  let v1566 : BitVec 32 := Scalar.muli v2 c2_i32_1199
  let v1567 : BitVec 32 := Scalar.addi c0_i32_1200 v1566
  let c1_i32_1196 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1565 : BitVec 32 := Scalar.subi c1_i32_1196 v5
  let c1_i32_1201 : BitVec 32 := 1#32
  let v1568 : BitVec 32 := Scalar.muli v1565 c1_i32_1201
  let v1569 : BitVec 32 := Scalar.addi v1567 v1568
  v1569.toNat
def k0_dev74 (d0 : Dev nD) : Nat :=
  let c0_i32_1218 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1217 : BitVec 32 := 2#32
  let v1589 : BitVec 32 := Scalar.muli v2 c2_i32_1217
  let v1590 : BitVec 32 := Scalar.addi c0_i32_1218 v1589
  let c1_i32_1214 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1588 : BitVec 32 := Scalar.subi c1_i32_1214 v5
  let c1_i32_1219 : BitVec 32 := 1#32
  let v1591 : BitVec 32 := Scalar.muli v1588 c1_i32_1219
  let v1592 : BitVec 32 := Scalar.addi v1590 v1591
  v1592.toNat
def k0_dev75 (d0 : Dev nD) : Nat :=
  let c0_i32_1236 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1235 : BitVec 32 := 2#32
  let v1612 : BitVec 32 := Scalar.muli v2 c2_i32_1235
  let v1613 : BitVec 32 := Scalar.addi c0_i32_1236 v1612
  let c1_i32_1232 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1611 : BitVec 32 := Scalar.subi c1_i32_1232 v5
  let c1_i32_1237 : BitVec 32 := 1#32
  let v1614 : BitVec 32 := Scalar.muli v1611 c1_i32_1237
  let v1615 : BitVec 32 := Scalar.addi v1613 v1614
  v1615.toNat
def k0_dev76 (d0 : Dev nD) : Nat :=
  let c0_i32_1254 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1253 : BitVec 32 := 2#32
  let v1635 : BitVec 32 := Scalar.muli v2 c2_i32_1253
  let v1636 : BitVec 32 := Scalar.addi c0_i32_1254 v1635
  let c1_i32_1250 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1634 : BitVec 32 := Scalar.subi c1_i32_1250 v5
  let c1_i32_1255 : BitVec 32 := 1#32
  let v1637 : BitVec 32 := Scalar.muli v1634 c1_i32_1255
  let v1638 : BitVec 32 := Scalar.addi v1636 v1637
  v1638.toNat
def k0_dev77 (d0 : Dev nD) : Nat :=
  let c0_i32_1272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1271 : BitVec 32 := 2#32
  let v1658 : BitVec 32 := Scalar.muli v2 c2_i32_1271
  let v1659 : BitVec 32 := Scalar.addi c0_i32_1272 v1658
  let c1_i32_1268 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1657 : BitVec 32 := Scalar.subi c1_i32_1268 v5
  let c1_i32_1273 : BitVec 32 := 1#32
  let v1660 : BitVec 32 := Scalar.muli v1657 c1_i32_1273
  let v1661 : BitVec 32 := Scalar.addi v1659 v1660
  v1661.toNat
def k0_dev78 (d0 : Dev nD) : Nat :=
  let c0_i32_1290 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1289 : BitVec 32 := 2#32
  let v1681 : BitVec 32 := Scalar.muli v2 c2_i32_1289
  let v1682 : BitVec 32 := Scalar.addi c0_i32_1290 v1681
  let c1_i32_1286 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1680 : BitVec 32 := Scalar.subi c1_i32_1286 v5
  let c1_i32_1291 : BitVec 32 := 1#32
  let v1683 : BitVec 32 := Scalar.muli v1680 c1_i32_1291
  let v1684 : BitVec 32 := Scalar.addi v1682 v1683
  v1684.toNat
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Loops.lean ====
/- The kernel's body written with loops: one definition per kind of statement, at a chunk or a stage given by its
   number, and the loops over them. The printed body is this program, by unfolding. -/
module

public import proofs.«01_k».proof.Proof.Gen.KernelIdeal
public import proofs.«01_k».proof.Proof.Gen.KernelIdeal.Skeleton
public import proofs.«01_k».proof.Proof.Gen.KernelIdeal.Points

@[expose] public section

noncomputable section

namespace Cert.AllGather

open Idealize.ShloMosaic Idealize.ShloMosaic.TcCoe
open Idealize.SL Idealize.SL.Sem
open Cert.KernelIdeal Cert.KernelIdeal.Gen

variable {F : FTy → Type} [FloatOps F]

/-- Programs of the kernel's body. -/
abbrev Body (F : FTy → Type) [FloatOps F] : Type 1 := Prog (TpuEff nD τ sig (Elt F) Λ₀ .tc) PUnit

/-- How many rows chunk `k` has. -/
def rows (k : Fin 38) : ℕ := if k.val < 4 then 128 else if k.val < 34 then 512 else 128

/-- The row of its half at which chunk `k` begins. -/
def start (k : Fin 38) : ℕ :=
  if k.val < 4 then 128 * k.val else if k.val < 34 then 512 + 512 * (k.val - 4) else 15872 + 128 * (k.val - 34)

/-- The shape of chunk `k`. -/
abbrev chunk (k : Fin 38) : Shape := ⟨2, ![rows k, 1024]⟩

/-- The printed offsets of chunk `k`: its rows of the result at the sender over `x`, -/
abbrev offX (d : Dev nD) (k : Fin 38) : Fin 2 → ℕ := k0_off1 d (BitVec.ofNat 32 (start k))
/-- of the argument, -/
abbrev offA (d : Dev nD) (k : Fin 38) : Fin 2 → ℕ := k0_off2 d (BitVec.ofNat 32 (start k))
/-- of the result at the sender over `y`, -/
abbrev offY (d : Dev nD) (k : Fin 38) : Fin 2 → ℕ := k0_off5 d (BitVec.ofNat 32 (start k))
/-- and the rows of the result of stage `j`. -/
abbrev offS (d : Dev nD) (j : Fin 16) : Fin 2 → ℕ := k0_off6 d (BitVec.ofNat 32 (2048 * j.val))

theorem offX_eq : ∀ d : Dev nD, ∀ k, offX d k = ![32768 * (d.val / 2) + 16384 * (d.val % 2) + start k, 0] := by decide +kernel
theorem offA_eq : ∀ d : Dev nD, ∀ k, offA d k = ![16384 * (d.val % 2) + start k, 0] := by decide +kernel
theorem offY_eq : ∀ d : Dev nD, ∀ k, offY d k = ![32768 * (1 - d.val / 2) + 16384 * (d.val % 2) + start k, 0] := by decide +kernel
theorem offS_eq : ∀ d : Dev nD, ∀ j, offS d j = ![32768 * (d.val / 2) + 2048 * j.val, 0] := by decide +kernel

theorem offX_inb : ∀ d : Dev nD, ∀ k, ∀ a, offX d k a + (chunk k).size a ≤ S65536x1024.size a := by decide +kernel
theorem offA_inb : ∀ d : Dev nD, ∀ k, ∀ a, offA d k a + (chunk k).size a ≤ S32768x1024.size a := by decide +kernel
theorem offY_inb : ∀ d : Dev nD, ∀ k, ∀ a, offY d k a + (chunk k).size a ≤ S65536x1024.size a := by decide +kernel
theorem offS_inb : ∀ d : Dev nD, ∀ j, ∀ a, offS d j a + S2048x1024.size a ≤ S65536x1024.size a := by decide +kernel
theorem offL_inb : ∀ j : Fin 16, ∀ a, (![2048 * j.val, 0] : Fin 2 → ℕ) a + S2048x1024.size a ≤ S32768x1024.size a := by decide +kernel

/-- Chunk `k` of the result at the sender over `x`. -/
abbrev outX (d : Dev nD) (k : Fin 38) : Memref sig .tc .hbm (chunk k) .f32 :=
  (Memref.whole main_v1).slice (Rect.unit (s := S65536x1024) (offX d k) (chunk k).size (offX_inb d k)) (fun _ => rfl)
/-- Chunk `k` of the argument. -/
abbrev argA (d : Dev nD) (k : Fin 38) : Memref sig .tc .hbm (chunk k) .f32 :=
  (Memref.whole main_arg0).slice (Rect.unit (s := S32768x1024) (offA d k) (chunk k).size (offA_inb d k)) (fun _ => rfl)
/-- Chunk `k` of the result at the sender over `y`. -/
abbrev outY (d : Dev nD) (k : Fin 38) : Memref sig .tc .hbm (chunk k) .f32 :=
  (Memref.whole main_v1).slice (Rect.unit (s := S65536x1024) (offY d k) (chunk k).size (offY_inb d k)) (fun _ => rfl)
/-- Stage `j`'s rows of the result. -/
abbrev outS (d : Dev nD) (j : Fin 16) : Memref sig .tc .hbm S2048x1024 .f32 :=
  (Memref.whole main_v1).slice (Rect.unit (s := S65536x1024) (offS d j) S2048x1024.size (offS_inb d j)) (fun _ => rfl)
/-- Stage `j`'s rows of the argument. -/
abbrev argL (j : Fin 16) : Memref sig .tc .hbm S2048x1024 .f32 :=
  (Memref.whole main_arg0).slice (Rect.unit (s := S32768x1024) ![2048 * j.val, 0] S2048x1024.size (offL_inb j)) (fun _ => rfl)

theorem slot_inb : ∀ s : Fin 4, ∀ a, (![s.val, 0, 0] : Fin 3 → ℕ) a + S1x2048x1024.size a ≤ S4x2048x1024.size a := by decide +kernel
/-- Slot `s` of the staging buffer. -/
abbrev slot (s : Fin 4) : Memref sig .tc .vmem S2048x1024 .f32 :=
  ((Memref.whole cc0_scratch0).slice (Rect.unit (s := S4x2048x1024) ![s.val, 0, 0] S1x2048x1024.size (slot_inb s)) (fun _ => rfl)).squeeze
    S2048x1024 squeezes_S1x2048x1024_S2048x1024
/-- The slot stage `j` goes through. -/
abbrev slotOf (j : Fin 16) : Fin 4 := ⟨j.val % 4, Nat.mod_lt _ (by decide)⟩

theorem one_inb38 : ∀ k : Fin 38, ∀ a, (![k.val] : Fin 1 → ℕ) a + S1.size a ≤ S38.size a := by decide +kernel
theorem one_inb4 : ∀ k : Fin 4, ∀ a, (![k.val] : Fin 1 → ℕ) a + S1.size a ≤ S4.size a := by decide +kernel
/-- Member `k` of an array of 38 semaphores, -/
abbrev at38 (a : DmaSems sig S38) (k : Fin 38) : DmaSem sig :=
  ((a.slice (Rect.unit (s := S38) ![k.val] S1.size (one_inb38 k))).squeeze S_ squeezes_S1_S_).sem
/-- and of an array of four. -/
abbrev at4 (a : DmaSems sig S4) (k : Fin 4) : DmaSem sig :=
  ((a.slice (Rect.unit (s := S4) ![k.val] S1.size (one_inb4 k))).squeeze S_ squeezes_S1_S_).sem

/-- The neighbour over `x`, as printed, -/
abbrev devX (d : Dev nD) : Dev nD := ⟨k0_dev1 d, k0_dev1_lt d⟩
/-- and over `y`. -/
abbrev devY (d : Dev nD) : Dev nD := ⟨k0_dev2 d, k0_dev2_lt d⟩

/-- The send of chunk `k` over `x`. -/
def sendX (d : Dev nD) (k : Fin 38) (p : Body F) : Body F :=
  .op (.enqueueDma (argA d k) (.remote (devX d).tc (outX d k) (.dma (at38 cc0_scratch3 k))) (.dma (at38 cc0_scratch4 k))
    (View.wordExact_bits rfl) (View.wordExact_bits rfl) ⟨⟨rfl, Or.inl rfl⟩, trivial⟩) fun _ => p
/-- The wait for the chunk `k` that comes over `x`. -/
def recvX (d : Dev nD) (k : Fin 38) (p : Body F) : Body F :=
  .op (.waitDma2 (at38 cc0_scratch4 k) (argA d k) (outX d k) (View.wordExact_bits rfl) (View.wordExact_bits rfl)) fun _ => p
/-- The send of chunk `k` on over `y`. -/
def sendY (d : Dev nD) (k : Fin 38) (p : Body F) : Body F :=
  .op (.enqueueDma (outY d k) (.remote (devY d).tc (outY d k) (.dma (at38 cc0_scratch5 k))) (.dma (at38 cc0_scratch6 k))
    (View.wordExact_bits rfl) (View.wordExact_bits rfl) ⟨⟨rfl, Or.inl rfl⟩, trivial⟩) fun _ => p
/-- The wait for the chunk `k` that comes over `y`. -/
def recvY (d : Dev nD) (k : Fin 38) (p : Body F) : Body F :=
  .op (.waitDma2 (at38 cc0_scratch6 k) (outY d k) (outY d k) (View.wordExact_bits rfl) (View.wordExact_bits rfl)) fun _ => p
/-- The wait that chunk `k` has left over `x`, -/
def leftX (d : Dev nD) (k : Fin 38) (p : Body F) : Body F :=
  .op (.waitDma2 (at38 cc0_scratch3 k) (outX d k) (argA d k) (View.wordExact_bits rfl) (View.wordExact_bits rfl)) fun _ => p
/-- and over `y`. -/
def leftY (d : Dev nD) (k : Fin 38) (p : Body F) : Body F :=
  .op (.waitDma2 (at38 cc0_scratch5 k) (outY d k) (outY d k) (View.wordExact_bits rfl) (View.wordExact_bits rfl)) fun _ => p

/-- The load of stage `j`, -/
def load (j : Fin 16) (p : Body F) : Body F :=
  .op (.enqueueDma (argL j) (.here (slot (slotOf j))) (.dma (at4 cc0_scratch1 (slotOf j)))
    (View.wordExact_bits rfl) ((View.wordExact_bits rfl).reshape _ _) ⟨Or.inl rfl, trivial⟩) fun _ => p
/-- the wait for it, -/
def loaded (j : Fin 16) (p : Body F) : Body F :=
  .op (.waitDma2 (at4 cc0_scratch1 (slotOf j)) (argL j) (slot (slotOf j)) (View.wordExact_bits rfl) ((View.wordExact_bits rfl).reshape _ _)) fun _ => p
/-- the store of stage `j`, -/
def store (d : Dev nD) (j : Fin 16) (p : Body F) : Body F :=
  .op (.enqueueDma (slot (slotOf j)) (.here (outS d j)) (.dma (at4 cc0_scratch2 (slotOf j)))
    ((View.wordExact_bits rfl).reshape _ _) (View.wordExact_bits rfl) ⟨Or.inl rfl, trivial⟩) fun _ => p
/-- the wait for it. -/
def stored (d : Dev nD) (j : Fin 16) (p : Body F) : Body F :=
  .op (.waitDma2 (at4 cc0_scratch2 (slotOf j)) (slot (slotOf j)) (outS d j) ((View.wordExact_bits rfl).reshape _ _) (View.wordExact_bits rfl)) fun _ => p

/-- What is done of the staging when chunk `k` has been sent on: the wait for the store four stages back, the load of stage `k`,
    and the wait for the load one stage back with the store of that stage. -/
def stage (d : Dev nD) (k : Fin 38) (p : Body F) : Body F :=
  if h : k.val < 16 then
    let q : Body F := load ⟨k.val, h⟩ (if h1 : 1 ≤ k.val then loaded ⟨k.val - 1, by omega⟩ (store d ⟨k.val - 1, by omega⟩ p) else p)
    if h4 : 4 ≤ k.val then stored d ⟨k.val - 4, by omega⟩ q else q
  else p

/-- The end of the staging. -/
def stageEnd (d : Dev nD) (p : Body F) : Body F :=
  loaded 15 (store d 15 (stored d 12 (stored d 13 (stored d 14 (stored d 15 p)))))

/-- The loop over the last `m` of the 38 chunks, in order. -/
def over (f : Fin 38 → Body F → Body F) (p : Body F) : (m : ℕ) → m ≤ 38 → Body F
  | 0, _ => p
  | m + 1, h => f ⟨38 - (m + 1), by omega⟩ (over f p m (Nat.le_of_succ_le h))

/-- The body after the handshake. -/
def afterBarrier (d : Dev nD) : Body F :=
  over (sendX d)
    (over (fun k p => recvX d k (sendY d k (stage d k p)))
      (stageEnd d
        (over (recvY d)
          (over (fun k p => leftX d k (leftY d k p)) (.ret ⟨⟩) 38 le_rfl) 38 le_rfl)) 38 le_rfl) 38 le_rfl

/-- The runtime's barrier semaphore. -/
abbrev barSem : Sem sig := sig.barrier 0 rfl

/-- The body with loops. -/
def loops : Body F :=
  .op .deviceId fun d =>
  .op (.semSignal ((devX d, .tc) : Thread nD τ) barSem 1) fun _ =>
  .op (.semSignal ((devY d, .tc) : Thread nD τ) barSem 1) fun _ =>
  .op (.semWait barSem 2) fun _ => afterBarrier d

set_option maxRecDepth 1000000 in
set_option maxHeartbeats 0 in
/-- The printed body is the body with loops. -/
theorem bodyAt0_eq (t : Fin cfg0.N) : bodyAt0 (F := F) t = loops := by
  exact (by rfl)

end Cert.AllGather

end
-- ==== Proof.Cells.lean ====
/- The semaphores of a device by the part they play, and how much each of them is credited at once. -/
module

public import proofs.«01_k».proof.Proof.Loops
public import Idealize.ShloMosaic.Lib.Pipeline.Launch
public import Idealize.ShloMosaic.Lib.Pipeline.Kit
public import Idealize.ShloMosaic.Lib.Tactic

@[expose] public section

noncomputable section

namespace Cert.AllGather

open Idealize.ShloMosaic Idealize.ShloMosaic.TcCoe
open Idealize.SL Idealize.SL.Sem
open Cert.KernelIdeal Cert.KernelIdeal.Gen

/-! ## The neighbours -/

theorem devX_val : ∀ d : Dev nD, (devX d).val = d.val % 2 + 2 - 2 * (d.val / 2) := by decide +kernel
theorem devY_val : ∀ d : Dev nD, (devY d).val = 2 * (d.val / 2) + 1 - d.val % 2 := by decide +kernel
theorem devX_devX : ∀ d : Dev nD, devX (devX d) = d := by decide +kernel
theorem devY_devY : ∀ d : Dev nD, devY (devY d) = d := by decide +kernel
theorem devX_ne_devY : ∀ d : Dev nD, devX d ≠ devY d := by decide +kernel

/-- The two neighbourships as permutations of the devices. -/
def permX : Dev nD ≃ Dev nD := ⟨devX, devX, devX_devX, devX_devX⟩
def permY : Dev nD ≃ Dev nD := ⟨devY, devY, devY_devY, devY_devY⟩

theorem eq_devX_iff {a b : Dev nD} : a = devX b ↔ devX a = b :=
  ⟨fun h => by rw [h, devX_devX], fun h => by rw [← h, devX_devX]⟩
theorem eq_devY_iff {a b : Dev nD} : a = devY b ↔ devY a = b :=
  ⟨fun h => by rw [h, devY_devY], fun h => by rw [← h, devY_devY]⟩

/-! ## The semaphores -/

/-- The parts: the barrier; the loads and the stores of the four slots; for each chunk what has left over `x`, what has come over
    `x`, what has left over `y`, what has come over `y`. -/
inductive Role where
  | bar
  | ld (s : Fin 4)
  | st (s : Fin 4)
  | xs (k : Fin 38)
  | xr (k : Fin 38)
  | ys (k : Fin 38)
  | yr (k : Fin 38)
deriving DecidableEq

/-- Roles as a sum. -/
def Role.sum : Role ≃ Unit ⊕ (Fin 4 ⊕ Fin 4) ⊕ (Fin 38 ⊕ Fin 38) ⊕ Fin 38 ⊕ Fin 38 where
  toFun
    | .bar => .inl ()
    | .ld s => .inr (.inl (.inl s))
    | .st s => .inr (.inl (.inr s))
    | .xs k => .inr (.inr (.inl (.inl k)))
    | .xr k => .inr (.inr (.inl (.inr k)))
    | .ys k => .inr (.inr (.inr (.inl k)))
    | .yr k => .inr (.inr (.inr (.inr k)))
  invFun
    | .inl _ => .bar
    | .inr (.inl (.inl s)) => .ld s
    | .inr (.inl (.inr s)) => .st s
    | .inr (.inr (.inl (.inl k))) => .xs k
    | .inr (.inr (.inl (.inr k))) => .xr k
    | .inr (.inr (.inr (.inl k))) => .ys k
    | .inr (.inr (.inr (.inr k))) => .yr k
  left_inv ρ := by cases ρ <;> rfl
  right_inv x := by rcases x with _ | (_ | _) | (_ | _) | _ | _ <;> rfl

instance : Fintype Role := Fintype.ofEquiv _ Role.sum.symm

/-- The semaphore of a role. -/
abbrev semOf : Role → SemLoc sig
  | .bar => .reg barSem
  | .ld s => .dma (at4 cc0_scratch1 s)
  | .st s => .dma (at4 cc0_scratch2 s)
  | .xs k => .dma (at38 cc0_scratch3 k)
  | .xr k => .dma (at38 cc0_scratch4 k)
  | .ys k => .dma (at38 cc0_scratch5 k)
  | .yr k => .dma (at38 cc0_scratch6 k)

theorem ld_val : ∀ s, (at4 cc0_scratch1 s).val = s.val := by decide +kernel
theorem st_val : ∀ s, (at4 cc0_scratch2 s).val = 4 + s.val := by decide +kernel
theorem xs_val : ∀ k, (at38 cc0_scratch3 k).val = 8 + k.val := by decide +kernel
theorem xr_val : ∀ k, (at38 cc0_scratch4 k).val = 46 + k.val := by decide +kernel
theorem ys_val : ∀ k, (at38 cc0_scratch5 k).val = 84 + k.val := by decide +kernel
theorem yr_val : ∀ k, (at38 cc0_scratch6 k).val = 122 + k.val := by decide +kernel

/-- The role of the copy semaphore numbered `i`. -/
def roleNo (i : ℕ) : Role :=
  if i < 4 then .ld ⟨i % 4, Nat.mod_lt _ (by decide)⟩
  else if i < 8 then .st ⟨(i - 4) % 4, Nat.mod_lt _ (by decide)⟩
  else if i < 46 then .xs ⟨(i - 8) % 38, Nat.mod_lt _ (by decide)⟩
  else if i < 84 then .xr ⟨(i - 46) % 38, Nat.mod_lt _ (by decide)⟩
  else if i < 122 then .ys ⟨(i - 84) % 38, Nat.mod_lt _ (by decide)⟩
  else .yr ⟨(i - 122) % 38, Nat.mod_lt _ (by decide)⟩

/-- The role of a semaphore. -/
def roleOf : SemLoc sig → Role
  | .reg _ => .bar
  | .dma i => roleNo i.val

theorem roleOf_semOf (ρ : Role) : roleOf (semOf ρ) = ρ := by
  cases ρ with
  | bar => rfl
  | ld s => show roleNo (at4 cc0_scratch1 s).val = _; rw [ld_val]; revert s; decide +kernel
  | st s => show roleNo (at4 cc0_scratch2 s).val = _; rw [st_val]; revert s; decide +kernel
  | xs k => show roleNo (at38 cc0_scratch3 k).val = _; rw [xs_val]; revert k; decide +kernel
  | xr k => show roleNo (at38 cc0_scratch4 k).val = _; rw [xr_val]; revert k; decide +kernel
  | ys k => show roleNo (at38 cc0_scratch5 k).val = _; rw [ys_val]; revert k; decide +kernel
  | yr k => show roleNo (at38 cc0_scratch6 k).val = _; rw [yr_val]; revert k; decide +kernel

theorem semOf_roleOf (sm : SemLoc sig) : semOf (roleOf sm) = sm := by
  cases sm with
  | reg s => exact congrArg SemLoc.reg (Subsingleton.elim (α := Fin 1) _ _)
  | dma i =>
    show semOf (roleNo i.val) = _
    revert i; decide +kernel

/-- Roles and semaphores are the same in number and order. -/
def roleSem : Role ≃ SemLoc sig := ⟨semOf, roleOf, roleOf_semOf, semOf_roleOf⟩

theorem semOf_injective : Function.Injective semOf := roleSem.injective

/-- The semaphore of a role at a device. -/
abbrev cell (c : Dev nD) (ρ : Role) : GSem nD τ sig := ((c : Thread nD τ), semOf ρ)

theorem cell_injective : Function.Injective (fun p : Dev nD × Role => cell p.1 p.2) := by
  rintro ⟨c, ρ⟩ ⟨c', ρ'⟩ h
  have h1 : c = c' := congrArg (fun g : GSem nD τ sig => g.1.1) h
  have h2 : ρ = ρ' := semOf_injective (congrArg Prod.snd h)
  rw [h1, h2]

theorem cell_eq_iff {c c' : Dev nD} {ρ ρ' : Role} : cell c ρ = cell c' ρ' ↔ c = c' ∧ ρ = ρ' :=
  ⟨fun h => by have := cell_injective (a₁ := (c, ρ)) (a₂ := (c', ρ')) h; exact Prod.mk.injEq _ _ _ _ ▸ this, fun h => by rw [h.1, h.2]⟩

/-! ## Amounts -/

/-- What one landing credits a semaphore. -/
def credit : Role → ℕ
  | .bar => 1
  | .ld _ => (slot 0).view.dmaCredit
  | .st _ => (outS 0 0).view.dmaCredit
  | .xs k => (outX 0 k).view.dmaCredit
  | .xr k => (outX 0 k).view.dmaCredit
  | .ys k => (outX 0 k).view.dmaCredit
  | .yr k => (outX 0 k).view.dmaCredit

theorem rows_pos : ∀ k, 0 < rows k := by decide
theorem chunk_numel_pos (k : Fin 38) : 0 < (chunk k).numel :=
  Shape.numel_pos fun a => by
    match a with
    | ⟨0, _⟩ => exact rows_pos k
    | ⟨1, _⟩ => exact (by decide : 0 < 1024)

theorem credit_pos (ρ : Role) : 0 < credit ρ := by
  cases ρ with
  | bar => exact Nat.one_pos
  | ld s => exact View.dmaCredit_pos _ (Shape.numel_pos (by decide))
  | st s => exact View.dmaCredit_pos _ (Shape.numel_pos (by decide))
  | xs k => exact View.dmaCredit_pos _ (chunk_numel_pos k)
  | xr k => exact View.dmaCredit_pos _ (chunk_numel_pos k)
  | ys k => exact View.dmaCredit_pos _ (chunk_numel_pos k)
  | yr k => exact View.dmaCredit_pos _ (chunk_numel_pos k)

theorem credit_slot (s : Fin 4) : (slot s).view.dmaCredit = credit (.ld s) := rfl
theorem credit_outS (d : Dev nD) (j : Fin 16) : (outS d j).view.dmaCredit = credit (.st (slotOf j)) := rfl
theorem credit_outX (d : Dev nD) (k : Fin 38) : (outX d k).view.dmaCredit = credit (.xr k) := rfl
theorem credit_outY (d : Dev nD) (k : Fin 38) : (outY d k).view.dmaCredit = credit (.yr k) := rfl
theorem credit_argA (d : Dev nD) (k : Fin 38) : (argA d k).view.dmaCredit = credit (.xs k) := by
  revert d k; decide +kernel

/-! ## Rounds -/

/-- How many landings a semaphore sees. -/
def turns : Role → ℕ
  | .ld _ => 4
  | .st _ => 4
  | _ => 1

/-- Who pays into a semaphore in a round: both neighbours at the barrier, one copy elsewhere. -/
def payers : Role → Finset Bool
  | .bar => Finset.univ
  | _ => {false}

end Cert.AllGather

end
-- ==== Proof.Rows.lean ====
/- Which rows each transfer touches, that they make up the arrays, and what they come to hold. -/
module

public import proofs.«01_k».proof.Proof.Cells

@[expose] public section

noncomputable section

namespace Cert.AllGather

open Idealize.ShloMosaic Idealize.ShloMosaic.TcCoe
open Idealize.SL Idealize.SL.Sem
open Cert.KernelIdeal Cert.KernelIdeal.Gen

variable {F : FTy → Type} [FloatOps F]

/-! ## The same rows under two names -/

theorem offX_devX : ∀ d : Dev nD, ∀ k, offX (devX d) k = offY d k := by decide +kernel

/-! ## Row ranges -/

/-- A range of `n` rows from row `o` of an array of `M` rows of 1024. -/
def band (M o n : ℕ) : Finset (⟨2, ![M, 1024]⟩ : Shape).Idx :=
  Finset.univ.filter fun i => o ≤ (i 0).val ∧ (i 0).val < o + n

theorem mem_band {M o n : ℕ} {i : (⟨2, ![M, 1024]⟩ : Shape).Idx} : i ∈ band M o n ↔ o ≤ (i 0).val ∧ (i 0).val < o + n := by
  simp only [band, Finset.mem_filter, Finset.mem_univ, true_and]

theorem rect_set {M n : ℕ} {off : Fin 2 → ℕ} {o : ℕ} (ho : off = ![o, 0])
    (h : ∀ a, off a + (![n, 1024] : Fin 2 → ℕ) a ≤ (⟨2, ![M, 1024]⟩ : Shape).size a) :
    (Rect.unit (s := ⟨2, ![M, 1024]⟩) off ![n, 1024] h).set = band M o n := by
  subst ho
  ext i
  rw [mem_band, Rect.mem_set_unit]
  constructor
  · intro hi; exact hi 0
  · intro hi a
    match a with
    | ⟨0, _⟩ => exact hi
    | ⟨1, _⟩ => exact ⟨Nat.zero_le _, (i 1).isLt.trans_eq (Nat.zero_add 1024).symm⟩

theorem set_outX (d : Dev nD) (k : Fin 38) :
    (outX d k).view.set = band 65536 (32768 * (d.val / 2) + 16384 * (d.val % 2) + start k) (rows k) :=
  (View.set_slice_whole main_v1 _).trans (rect_set (offX_eq d k) _)
theorem set_outY (d : Dev nD) (k : Fin 38) :
    (outY d k).view.set = band 65536 (32768 * (1 - d.val / 2) + 16384 * (d.val % 2) + start k) (rows k) :=
  (View.set_slice_whole main_v1 _).trans (rect_set (offY_eq d k) _)
theorem set_outS (d : Dev nD) (j : Fin 16) :
    (outS d j).view.set = band 65536 (32768 * (d.val / 2) + 2048 * j.val) 2048 :=
  (View.set_slice_whole main_v1 _).trans (rect_set (offS_eq d j) _)
theorem set_argA (d : Dev nD) (k : Fin 38) :
    (argA d k).view.set = band 32768 (16384 * (d.val % 2) + start k) (rows k) :=
  (View.set_slice_whole main_arg0 _).trans (rect_set (offA_eq d k) _)
theorem set_argL (j : Fin 16) : (argL j).view.set = band 32768 (2048 * j.val) 2048 :=
  (View.set_slice_whole main_arg0 _).trans (rect_set rfl _)

/-- The rows of the result and of the argument that the transfers touch. -/
abbrev setX (d : Dev nD) (k : Fin 38) : Finset (main_v1 : Ref sig .tc).ty.Idx := (outX d k).view.set
abbrev setY (d : Dev nD) (k : Fin 38) : Finset (main_v1 : Ref sig .tc).ty.Idx := (outY d k).view.set
abbrev setS (d : Dev nD) (j : Fin 16) : Finset (main_v1 : Ref sig .tc).ty.Idx := (outS d j).view.set
abbrev setA (d : Dev nD) (k : Fin 38) : Finset (main_arg0 : Ref sig .tc).ty.Idx := (argA d k).view.set
abbrev setL (j : Fin 16) : Finset (main_arg0 : Ref sig .tc).ty.Idx := (argL j).view.set

theorem setX_devX (d : Dev nD) (k : Fin 38) : setX (devX d) k = setY d k := by
  refine (View.set_slice_whole main_v1 _).trans (Eq.trans ?_ (View.set_slice_whole main_v1 _).symm)
  exact (rect_set (offX_eq (devX d) k) _).trans
    ((congrArg (fun o => band 65536 o (rows k)) (by have := offX_devX d k; rw [offX_eq, offY_eq] at this; exact congrFun this 0)).trans
      (rect_set (offY_eq d k) _).symm)

/-! ## The chunks make up a half -/

theorem start_lt : ∀ k k' : Fin 38, k < k' → start k + rows k ≤ start k' := by decide +kernel
theorem start_le : ∀ k : Fin 38, start k + rows k ≤ 16384 := by decide +kernel

/-- The chunk that holds row `r` of a half. -/
def chunkOf (r : ℕ) : ℕ := if r < 512 then r / 128 else if r < 15872 then (r - 512) / 512 + 4 else (r - 15872) / 128 + 34

theorem chunkOf_spec {r : ℕ} (hr : r < 16384) : ∃ k : Fin 38, start k ≤ r ∧ r < start k + rows k := by
  have hk : chunkOf r < 38 := by unfold chunkOf; split_ifs <;> omega
  refine ⟨⟨chunkOf r, hk⟩, ?_⟩
  unfold start rows chunkOf
  dsimp only
  split_ifs <;> omega

theorem band_disjoint {M o n o' n' : ℕ} (h : o + n ≤ o' ∨ o' + n' ≤ o) : Disjoint (band M o n) (band M o' n') :=
  Finset.disjoint_left.mpr fun i hi hi' => by
    rw [mem_band] at hi hi'; omega

theorem chunk_apart {k k' : Fin 38} (h : k ≠ k') : start k + rows k ≤ start k' ∨ start k' + rows k' ≤ start k := by
  rcases lt_or_gt_of_ne h with h | h
  · exact Or.inl (start_lt _ _ h)
  · exact Or.inr (start_lt _ _ h)

theorem dev_lt (d : Dev nD) : d.val < 4 := d.isLt
theorem stage_lt (j : Fin 16) : j.val < 16 := j.isLt

/-- The pieces of the result at a device: what comes over `x`, what comes over `y`, its own rows. -/
def piece (d : Dev nD) : Fin 38 ⊕ Fin 38 ⊕ Fin 16 → Finset (main_v1 : Ref sig .tc).ty.Idx
  | .inl k => (outY d k).view.set
  | .inr (.inl k) => (outY (devY d) k).view.set
  | .inr (.inr j) => (outS d j).view.set

/-- The first row of a piece, -/
def pieceRow (d : Dev nD) : Fin 38 ⊕ Fin 38 ⊕ Fin 16 → ℕ
  | .inl k => 32768 * (1 - d.val / 2) + 16384 * (d.val % 2) + start k
  | .inr (.inl k) => 32768 * (1 - d.val / 2) + 16384 * (1 - d.val % 2) + start k
  | .inr (.inr j) => 32768 * (d.val / 2) + 2048 * j.val
/-- and how many it has. -/
def pieceRows : Fin 38 ⊕ Fin 38 ⊕ Fin 16 → ℕ
  | .inl k => rows k
  | .inr (.inl k) => rows k
  | .inr (.inr _) => 2048

theorem devY_half (d : Dev nD) : (devY d).val / 2 = d.val / 2 ∧ (devY d).val % 2 = 1 - d.val % 2 := by
  have hd := dev_lt d
  rw [devY_val]; omega

theorem piece_eq (d : Dev nD) (p : Fin 38 ⊕ Fin 38 ⊕ Fin 16) : piece d p = band 65536 (pieceRow d p) (pieceRows p) := by
  rcases p with k | k | j
  · exact set_outY d k
  · refine (set_outY (devY d) k).trans ?_
    rw [(devY_half d).1, (devY_half d).2]; rfl
  · exact set_outS d j

theorem piece_disjoint (d : Dev nD) (p p' : Fin 38 ⊕ Fin 38 ⊕ Fin 16) (h : p ≠ p') : Disjoint (piece d p) (piece d p') := by
  have hd := dev_lt d
  rw [piece_eq, piece_eq]
  refine band_disjoint ?_
  rcases p with k | k | j <;> rcases p' with k' | k' | j' <;> dsimp only [pieceRow, pieceRows]
  · have := chunk_apart (k := k) (k' := k') fun e => h (by rw [e]); omega
  · have := start_le k; have := start_le k'; omega
  · have := start_le k; have := stage_lt j'; omega
  · have := start_le k; have := start_le k'; omega
  · have := chunk_apart (k := k) (k' := k') fun e => h (by rw [e]); omega
  · have := start_le k; have := stage_lt j'; omega
  · have := start_le k'; have := stage_lt j; omega
  · have := start_le k'; have := stage_lt j; omega
  · have : j.val ≠ j'.val := fun e => h (by rw [Fin.ext e])
    omega

theorem piece_cover (d : Dev nD) : Finset.univ.biUnion (piece d) = Finset.univ := by
  refine Finset.eq_univ_of_forall fun i => ?_
  rw [Finset.mem_biUnion]
  have hd := dev_lt d
  have hi : (i 0).val < 65536 := (i 0).isLt
  suffices h : ∃ p, pieceRow d p ≤ (i 0).val ∧ (i 0).val < pieceRow d p + pieceRows p by
    obtain ⟨p, hp⟩ := h
    exact ⟨p, Finset.mem_univ _, by rw [piece_eq]; exact mem_band.mpr hp⟩
  by_cases h : (i 0).val / 32768 = d.val / 2
  · refine ⟨.inr (.inr ⟨(i 0).val % 32768 / 2048, by omega⟩), ?_⟩
    dsimp only [pieceRow, pieceRows]; omega
  · obtain ⟨k, hk⟩ := chunkOf_spec (r := (i 0).val % 16384) (Nat.mod_lt _ (by decide))
    by_cases h' : (i 0).val % 32768 / 16384 = d.val % 2
    · refine ⟨.inl k, ?_⟩
      dsimp only [pieceRow, pieceRows]; omega
    · refine ⟨.inr (.inl k), ?_⟩
      dsimp only [pieceRow, pieceRows]; omega

/-- The pieces of the argument that are sent from a device, and the others. -/
def argPiece (d : Dev nD) : Fin 38 ⊕ Fin 38 → Finset (main_arg0 : Ref sig .tc).ty.Idx
  | .inl k => (argA d k).view.set
  | .inr k => (argA (devY d) k).view.set

/-- The first row of a piece of the argument. -/
def argRow (d : Dev nD) : Fin 38 ⊕ Fin 38 → ℕ
  | .inl k => 16384 * (d.val % 2) + start k
  | .inr k => 16384 * (1 - d.val % 2) + start k
/-- How many rows it has. -/
def argRows : Fin 38 ⊕ Fin 38 → ℕ
  | .inl k => rows k
  | .inr k => rows k

theorem argPiece_eq (d : Dev nD) (p : Fin 38 ⊕ Fin 38) : argPiece d p = band 32768 (argRow d p) (argRows p) := by
  rcases p with k | k
  · exact set_argA d k
  · refine (set_argA (devY d) k).trans ?_
    rw [(devY_half d).2]; rfl

theorem argPiece_disjoint (d : Dev nD) (p p' : Fin 38 ⊕ Fin 38) (h : p ≠ p') : Disjoint (argPiece d p) (argPiece d p') := by
  have hd := dev_lt d
  rw [argPiece_eq, argPiece_eq]
  refine band_disjoint ?_
  rcases p with k | k <;> rcases p' with k' | k' <;> dsimp only [argRow, argRows]
  · have := chunk_apart (k := k) (k' := k') fun e => h (by rw [e]); omega
  · have := start_le k; have := start_le k'; omega
  · have := start_le k; have := start_le k'; omega
  · have := chunk_apart (k := k) (k' := k') fun e => h (by rw [e]); omega

theorem argPiece_cover (d : Dev nD) : Finset.univ.biUnion (argPiece d) = Finset.univ := by
  refine Finset.eq_univ_of_forall fun i => ?_
  rw [Finset.mem_biUnion]
  have hd := dev_lt d
  have hi : (i 0).val < 32768 := (i 0).isLt
  suffices h : ∃ p, argRow d p ≤ (i 0).val ∧ (i 0).val < argRow d p + argRows p by
    obtain ⟨p, hp⟩ := h
    exact ⟨p, Finset.mem_univ _, by rw [argPiece_eq]; exact mem_band.mpr hp⟩
  obtain ⟨k, hk⟩ := chunkOf_spec (r := (i 0).val % 16384) (Nat.mod_lt _ (by decide))
  by_cases h' : (i 0).val / 16384 = d.val % 2
  · refine ⟨.inl k, ?_⟩
    dsimp only [argRow, argRows]; omega
  · refine ⟨.inr k, ?_⟩
    dsimp only [argRow, argRows]; omega

theorem argL_disjoint (j j' : Fin 16) (h : j ≠ j') : Disjoint (argL j).view.set (argL j').view.set := by
  rw [set_argL, set_argL]
  have : j.val ≠ j'.val := fun e => h (Fin.ext e)
  exact band_disjoint (by omega)

theorem argL_cover : Finset.univ.biUnion (fun j => (argL j).view.set) = (Finset.univ : Finset (main_arg0 : Ref sig .tc).ty.Idx) := by
  refine Finset.eq_univ_of_forall fun i => ?_
  rw [Finset.mem_biUnion]
  have hi : (i 0).val < 32768 := (i 0).isLt
  refine ⟨⟨(i 0).val / 2048, by omega⟩, Finset.mem_univ _, ?_⟩
  rw [set_argL]
  refine mem_band.mpr ?_
  dsimp only; omega

/-! ## The slots make up the staging buffer -/

theorem mem_slot {s : Fin 4} {i : (cc0_scratch0 : Ref sig .tc).ty.Idx} : i ∈ (slot s).view.set ↔ (i 0).val = s.val := by
  have e : (slot s).view.set
      = (Rect.unit (s := S4x2048x1024) ![s.val, 0, 0] S1x2048x1024.size (slot_inb s)).set :=
    (View.set_reshape _ _).trans (View.set_slice_whole cc0_scratch0 _)
  rw [e, Rect.mem_set_unit]
  constructor
  · intro hi
    have h := hi 0
    change s.val ≤ (i 0).val ∧ (i 0).val < s.val + 1 at h
    omega
  · intro hi a
    match a with
    | ⟨0, _⟩ => change s.val ≤ (i 0).val ∧ (i 0).val < s.val + 1; omega
    | ⟨1, _⟩ => exact ⟨Nat.zero_le _, (i 1).isLt.trans_eq (Nat.zero_add 2048).symm⟩
    | ⟨2, _⟩ => exact ⟨Nat.zero_le _, (i 2).isLt.trans_eq (Nat.zero_add 1024).symm⟩

theorem slot_disjoint (s s' : Fin 4) (h : s ≠ s') : Disjoint (slot s).view.set (slot s').view.set :=
  Finset.disjoint_left.mpr fun i hi hi' => h (Fin.ext ((mem_slot.mp hi).symm.trans (mem_slot.mp hi')))

theorem slot_cover : Finset.univ.biUnion (fun s => (slot s).view.set) = (Finset.univ : Finset (cc0_scratch0 : Ref sig .tc).ty.Idx) := by
  refine Finset.eq_univ_of_forall fun i => ?_
  rw [Finset.mem_biUnion]
  exact ⟨⟨(i 0).val, (i 0).isLt⟩, Finset.mem_univ _, mem_slot.mpr rfl⟩

/-! ## Contents -/

variable (m : (ℓ : Loc nD τ sig) → Buf (Elt F) ℓ)

/-- The argument at a device when the kernel is launched. -/
abbrev arg (c : Dev nD) : Buf (Elt F) ((c : Thread nD τ).loc main_arg0) := m ((c : Thread nD τ).loc main_arg0)

/-- The device from which row `r` of the result gets to device `c`: itself for its own rows; for the others, of the two devices that
    hold them, the one that sends the half in which the row lies. -/
def source (c : Dev nD) (r : ℕ) : Dev nD :=
  if r / 32768 = c.val / 2 then c
  else ⟨2 * (1 - c.val / 2) + r % 32768 / 16384, by have := dev_lt c; show _ < 4; omega⟩

theorem source_val (c : Dev nD) (r : ℕ) :
    (source c r).val = if r / 32768 = c.val / 2 then c.val else 2 * (1 - c.val / 2) + r % 32768 / 16384 := by
  unfold source; split_ifs <;> rfl

/-- The row of the argument that row `r` of the result is. -/
def within (i : (main_v1 : Ref sig .tc).ty.Idx) : (main_arg0 : Ref sig .tc).ty.Idx :=
  fun a => match a with
    | ⟨0, _⟩ => (⟨(i 0).val % 32768, Nat.mod_lt _ (by decide)⟩ : Fin 32768)
    | ⟨1, _⟩ => (⟨(i 1).val, (i 1).isLt⟩ : Fin 1024)

/-- What the result comes to hold at device `c`. -/
def gathered (c : Dev nD) : Buf (Elt F) ((c : Thread nD τ).loc main_v1) :=
  fun i => arg m (source c (i 0).val) (within i)

theorem within_eq {i : (main_v1 : Ref sig .tc).ty.Idx} {j : (main_arg0 : Ref sig .tc).ty.Idx}
    (h0 : (i 0).val % 32768 = (j 0).val) (h1 : (i 1).val = (j 1).val) : within i = j :=
  funext fun a => by
    match a with
    | ⟨0, _⟩ => exact Fin.ext h0
    | ⟨1, _⟩ => exact Fin.ext h1

theorem row_outX (d : Dev nD) (k : Fin 38) (x : (chunk k).Idx) :
    ((outX d k).view.emb x 0).val = 32768 * (d.val / 2) + 16384 * (d.val % 2) + start k + (x 0).val := by
  show offX d k 0 + 1 * (x 0).val = _
  rw [offX_eq]; simp
theorem row_argA (d : Dev nD) (k : Fin 38) (x : (chunk k).Idx) :
    ((argA d k).view.emb x 0).val = 16384 * (d.val % 2) + start k + (x 0).val := by
  show offA d k 0 + 1 * (x 0).val = _
  rw [offA_eq]; simp
theorem row_outS (d : Dev nD) (j : Fin 16) (x : S2048x1024.Idx) :
    ((outS d j).view.emb x 0).val = 32768 * (d.val / 2) + 2048 * j.val + (x 0).val := by
  show offS d j 0 + 1 * (x 0).val = _
  rw [offS_eq]; simp
theorem row_argL (j : Fin 16) (x : S2048x1024.Idx) : ((argL j).view.emb x 0).val = 2048 * j.val + (x 0).val := by
  show (![2048 * j.val, 0] : Fin 2 → ℕ) 0 + 1 * (x 0).val = _
  simp
theorem col_outX (d : Dev nD) (k : Fin 38) (x : (chunk k).Idx) : ((outX d k).view.emb x 1).val = (x 1).val := by
  show offX d k 1 + 1 * (x 1).val = _
  rw [offX_eq]; simp
theorem col_argA (d : Dev nD) (k : Fin 38) (x : (chunk k).Idx) : ((argA d k).view.emb x 1).val = (x 1).val := by
  show offA d k 1 + 1 * (x 1).val = _
  rw [offA_eq]; simp
theorem col_outS (d : Dev nD) (j : Fin 16) (x : S2048x1024.Idx) : ((outS d j).view.emb x 1).val = (x 1).val := by
  show offS d j 1 + 1 * (x 1).val = _
  rw [offS_eq]; simp
theorem col_argL (j : Fin 16) (x : S2048x1024.Idx) : ((argL j).view.emb x 1).val = (x 1).val := by
  show (![2048 * j.val, 0] : Fin 2 → ℕ) 1 + 1 * (x 1).val = _
  simp

/-- What is sent over `x` is what the receiver is to hold there. -/
theorem gathered_outX (c : Dev nD) (k : Fin 38) (x : (chunk k).Idx) :
    gathered m (devX c) ((outX c k).view.emb x) = arg m c ((argA c k).view.emb x) := by
  have hc := dev_lt c
  have hx : (x 0).val < rows k := (x 0).isLt
  have hk := start_le k
  have hr := row_outX c k x
  have hs : source (devX c) ((outX c k).view.emb x 0).val = c := by
    refine Fin.ext ?_
    rw [source_val, hr, devX_val]
    split_ifs <;> omega
  have hw : within ((outX c k).view.emb x) = (argA c k).view.emb x :=
    within_eq (by rw [hr, row_argA]; omega) (by rw [col_outX, col_argA])
  unfold gathered
  rw [hs, hw]

/-- What is staged is what the device is to hold there. -/
theorem gathered_outS (c : Dev nD) (j : Fin 16) (x : S2048x1024.Idx) :
    gathered m c ((outS c j).view.emb x) = arg m c ((argL j).view.emb x) := by
  have hx : (x 0).val < 2048 := (x 0).isLt
  have hj := stage_lt j
  have hr := row_outS c j x
  have hs : source c ((outS c j).view.emb x 0).val = c := by
    refine Fin.ext ?_
    rw [source_val, hr, if_pos (by omega)]
  have hw : within ((outS c j).view.emb x) = (argL j).view.emb x :=
    within_eq (by rw [hr, row_argL]; omega) (by rw [col_outS, col_argL])
  unfold gathered
  rw [hs, hw]

/-- The two neighbours over `y` are to hold the same in the rows that come from elsewhere. -/
theorem gathered_outY (c : Dev nD) (k : Fin 38) (i : (main_v1 : Ref sig .tc).ty.Idx) (hi : i ∈ (outY c k).view.set) :
    gathered m (devY c) i = gathered m c i := by
  rw [set_outY, mem_band] at hi
  have hc := dev_lt c
  have hy := devY_val c
  have hk := start_le k
  have hs : source (devY c) (i 0).val = source c (i 0).val := by
    refine Fin.ext ?_
    rw [source_val, source_val, hy]
    split_ifs <;> omega
  unfold gathered
  rw [hs]

end Cert.AllGather

end
-- ==== Proof.Protocol.lean ====
/- What every landing hands over, what every device owes when it starts, and in which order the semaphores are waited for.

   The barrier of a device is signalled by both its neighbours; each hands over the rows of its own result that this device is
   going to write. A chunk sent over `x` credits the sender (its share of the argument back) and the receiver (the rows, holding
   what they are to hold); a chunk sent on over `y` does the same with the rows of the result. A slot's load credits the slot's
   load semaphore four times, its stores the store semaphore four times. -/
module

public import proofs.«01_k».proof.Proof.Rows

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Holdings -/

/-- Rows of the result at a device. -/
def outAt (c : Dev nD) (S : Finset (main_v1 : Ref sig .tc).ty.Idx) (f : Buf (Elt F) ((c : Thread nD τ).loc main_v1)) : sProp 𝕄 :=
  ((c : Thread nD τ).loc main_v1) ↦[S]{fullShare} f
/-- Rows of the argument at a device, to a share. -/
def argAt (c : Dev nD) (S : Finset (main_arg0 : Ref sig .tc).ty.Idx) (q : PosShare TreeShare) : sProp 𝕄 :=
  ((c : Thread nD τ).loc main_arg0) ↦[S]{q} arg m c
/-- A slot of the staging buffer at a device. -/
def slotAt (c : Dev nD) (s : Fin 4) (f : Buf (Elt F) ((c : Thread nD τ).loc cc0_scratch0)) : sProp 𝕄 :=
  ((c : Thread nD τ).loc cc0_scratch0) ↦[(slot s).view.set]{fullShare} f

instance (c : Dev nD) (S) (f) : BI.Storable (upEmb : UEmb _ 𝕄) (outAt (F := F) c S f) := by unfold outAt; infer_instance
instance (c : Dev nD) (S) (q) : BI.Storable (upEmb : UEmb _ 𝕄) (argAt (F := F) m c S q) := by unfold argAt; infer_instance
instance (c : Dev nD) (s) (f) : BI.Storable (upEmb : UEmb _ 𝕄) (slotAt (F := F) c s f) := by unfold slotAt; infer_instance

/-- The slot of stage `j` with the stage's rows of the argument in it. -/
def filled (c : Dev nD) (s : Fin 4) (j : Fin 16) : sProp 𝕄 :=
  iprop(∃ f : Buf (Elt F) ((c : Thread nD τ).loc cc0_scratch0), ⌜(slot s).view.read (Elt F) f = (argL j).view.read (Elt F) (arg m c)⌝ ∗ slotAt c s f)

instance (c : Dev nD) (s) (j) : BI.Storable (upEmb : UEmb _ 𝕄) (filled (F := F) m c s j) := by unfold filled; infer_instance

/-- The stage that goes through slot `s` in round `r`. -/
def stageOf (s : Fin 4) (r : ℕ) : Fin 16 := ⟨(s.val + 4 * r) % 16, Nat.mod_lt _ (by decide)⟩

theorem stageOf_self (j : Fin 16) : stageOf (slotOf j) (j.val / 4) = j :=
  Fin.ext (by have := stage_lt j; show (j.val % 4 + 4 * (j.val / 4)) % 16 = j.val; omega)

/-- The rows that device `c` writes over `x`, at the neighbour, whatever they hold; -/
def roomX (c : Dev nD) (k : Fin 38) : sProp 𝕄 := iprop(∃ f, outAt (F := F) (devX c) (setX c k) f)
/-- and over `y`. -/
def roomY (c : Dev nD) (k : Fin 38) : sProp 𝕄 := iprop(∃ f, outAt (F := F) (devY c) (setY c k) f)

/-- What a landing hands to the device `c` whose semaphore it credits: the semaphore's role, the round, who pays. -/
def pay (c : Dev nD) (ρ : Role) (r : ℕ) (d : Bool) : sProp 𝕄 :=
  match ρ with
  | .bar => if d then bigSep Finset.univ (roomY (F := F) c) else bigSep Finset.univ (roomX (F := F) c)
  | .ld s => iprop(filled m c s (stageOf s r) ∗ argAt m c (setL (stageOf s r)) fullShare.right)
  | .st s => iprop((∃ f, slotAt (F := F) c s f) ∗ outAt c (setS c (stageOf s r)) (gathered m c))
  | .xs k => argAt m c (setA c k) fullShare.left
  | .xr k => outAt c (setY c k) (gathered m c)
  | .ys k => outAt c (setY c k) (gathered m c)
  | .yr k => outAt c (setY (devY c) k) (gathered m c)

instance (c : Dev nD) (k) : BI.Storable (upEmb : UEmb _ 𝕄) (roomX (F := F) c k) := by unfold roomX; infer_instance
instance (c : Dev nD) (k) : BI.Storable (upEmb : UEmb _ 𝕄) (roomY (F := F) c k) := by unfold roomY; infer_instance

instance pay_storable (c : Dev nD) (ρ : Role) (r : ℕ) (d : Bool) : BI.Storable (upEmb : UEmb _ 𝕄) (pay m c ρ r d) := by
  cases ρ <;> dsimp only [pay]
  · split <;> infer_instance
  all_goals infer_instance

/-- The schedule of all the semaphores. -/
def sched : Rounds.Schedule (GSem nD τ sig) Bool 𝕄 where
  duties g r := if g.1.2 = .tc ∧ r < turns (roleOf g.2) then payers (roleOf g.2) else ∅
  unitless _ := False
  amount g _ _ := credit (roleOf g.2)
  payload g r d := pay m g.1.1 (roleOf g.2) r d
  amount_pos g _ _ _ := credit_pos (roleOf g.2)

instance sched_storable (g : GSem nD τ sig) (r : ℕ) (d : Bool) : BI.Storable (upEmb : UEmb _ 𝕄) ((sched m).payload g r d) :=
  pay_storable m _ _ _ _

section Sched
variable (c : Dev nD) (ρ : Role)

theorem duties_cell {r : ℕ} (h : r < turns ρ) : (sched m).duties (cell c ρ) r = payers ρ := by
  show (if Proc.tc = .tc ∧ r < turns (roleOf (semOf ρ)) then payers (roleOf (semOf ρ)) else ∅) = _
  rw [roleOf_semOf, if_pos ⟨rfl, h⟩]

theorem duties_over (r : ℕ) (h : turns ρ ≤ r) : (sched m).duties (cell c ρ) r = ∅ := by
  show (if Proc.tc = .tc ∧ r < turns (roleOf (semOf ρ)) then payers (roleOf (semOf ρ)) else ∅) = _
  rw [roleOf_semOf, if_neg fun h' => absurd h'.2 (not_lt.mpr h)]

theorem amount_cell (r : ℕ) (d : Bool) : (sched m).amount (cell c ρ) r d = credit ρ := by
  show credit (roleOf (semOf ρ)) = _
  rw [roleOf_semOf]

theorem payload_cell (r : ℕ) (d : Bool) : (sched m).payload (cell c ρ) r d = pay m c ρ r d := by
  show pay m c (roleOf (semOf ρ)) r d = _
  rw [roleOf_semOf]

theorem payers_of_ne (h : ρ ≠ .bar) : payers ρ = {false} := by cases ρ <;> first | rfl | exact absurd rfl h

theorem mem_duties (h : ρ ≠ .bar) {r : ℕ} (hr : r < turns ρ) : false ∈ (sched m).duties (cell c ρ) r := by
  rw [duties_cell m c ρ hr, payers_of_ne ρ h]; exact Finset.mem_singleton_self _

theorem expect_cell (h : ρ ≠ .bar) {r : ℕ} (hr : r < turns ρ) : (sched m).expect (cell c ρ) r = credit ρ := by
  unfold Schedule.expect Schedule.amountOf
  rw [duties_cell m c ρ hr, payers_of_ne ρ h, Finset.sum_singleton, amount_cell]

theorem expect_bar : (sched m).expect (cell c .bar) 0 = 2 := by
  unfold Schedule.expect Schedule.amountOf
  rw [duties_cell m c .bar (by decide), Finset.sum_congr rfl fun d _ => amount_cell m c .bar 0 d]
  rfl

theorem rest_cell (h : ρ ≠ .bar) {r : ℕ} (hr : r < turns ρ) :
    bigSep ((sched m).duties (cell c ρ) r \ ∅) (fun d => (sched m).payload (cell c ρ) r d) = pay m c ρ r false := by
  rw [Finset.sdiff_empty, duties_cell m c ρ hr, payers_of_ne ρ h, bigSep_singleton, payload_cell]

theorem rest_bar :
    bigSep ((sched m).duties (cell c .bar) 0 \ ∅) (fun d => (sched m).payload (cell c .bar) 0 d)
      = iprop(bigSep Finset.univ (roomX (F := F) c) ∗ bigSep Finset.univ (roomY (F := F) c)) := by
  rw [Finset.sdiff_empty, duties_cell m c .bar (by decide), show payers .bar = Finset.univ from rfl,
    bigSep_univ_eq_bigSepL [false, true] (by decide) (by decide), bigSepL_cons_cons, bigSepL_singleton,
    payload_cell, payload_cell]
  rfl

end Sched

/-! ## What is owed -/

/-- What device `c` still owes its neighbour over `x` when the chunks before `k` have been sent, -/
def owedX (c : Dev nD) (k : ℕ) : CellTallies nD τ sig Unit :=
  ∑ j ∈ Finset.univ.filter (fun j : Fin 38 => k ≤ j.val), tallyAt (cell (devX c) (.xr j)) () (credit (.xr j))
/-- and over `y`. -/
def owedY (c : Dev nD) (k : ℕ) : CellTallies nD τ sig Unit :=
  ∑ j ∈ Finset.univ.filter (fun j : Fin 38 => k ≤ j.val), tallyAt (cell (devY c) (.yr j)) () (credit (.yr j))

theorem from_succ (k : Fin 38) :
    Finset.univ.filter (fun j : Fin 38 => k.val ≤ j.val) = insert k (Finset.univ.filter fun j : Fin 38 => k.val + 1 ≤ j.val) := by
  ext j
  simp only [Finset.mem_filter, Finset.mem_univ, true_and, Finset.mem_insert, Fin.ext_iff]
  omega
theorem not_mem_from (k : Fin 38) : k ∉ Finset.univ.filter fun j : Fin 38 => k.val + 1 ≤ j.val := by
  simp
theorem from_end : Finset.univ.filter (fun j : Fin 38 => 38 ≤ j.val) = ∅ :=
  Finset.filter_eq_empty_iff.mpr fun j _ => by have := j.isLt; omega

theorem owedX_succ (c : Dev nD) (k : Fin 38) :
    owedX c k.val = owedX c (k.val + 1) + tallyAt (cell (devX c) (.xr k)) () (credit (.xr k)) := by
  unfold owedX; rw [from_succ, Finset.sum_insert (not_mem_from k), add_comm]
theorem owedY_succ (c : Dev nD) (k : Fin 38) :
    owedY c k.val = owedY c (k.val + 1) + tallyAt (cell (devY c) (.yr k)) () (credit (.yr k)) := by
  unfold owedY; rw [from_succ, Finset.sum_insert (not_mem_from k), add_comm]
theorem owedX_end (c : Dev nD) : owedX c 38 = 0 := by unfold owedX; rw [from_end, Finset.sum_empty]
theorem owedY_end (c : Dev nD) : owedY c 38 = 0 := by unfold owedY; rw [from_end, Finset.sum_empty]

/-- What device `c` owes after both its signals, -/
def owedSends (c : Dev nD) : CellTallies nD τ sig Unit := owedX c 0 + owedY c 0
/-- before the second, -/
def owed1 (c : Dev nD) : CellTallies nD τ sig Unit := owedSends c + tallyAt (cell (devY c) .bar) () 1
/-- and at the start. -/
def owed0 (c : Dev nD) : CellTallies nD τ sig Unit := owed1 c + tallyAt (cell (devX c) .bar) () 1

/-- The order of the waits: what a device copies within itself or gets back first, then the barrier, then what comes over `x`, then
    what comes over `y`. -/
def rank : Role → ℕ
  | .bar => 1
  | .xr _ => 2
  | .yr _ => 3
  | _ => 0

def lv (g : GSem nD τ sig) (_ : Unit) : ℕ := rank (roleOf g.2)
def L (g : GSem nD τ sig) : Finset Unit := if g.1.2 = .tc then {()} else ∅

theorem L_of_ne (g : GSem nD τ sig) (h : g.1.2 ≠ .tc) : L g = ∅ := if_neg h
theorem mem_L (c : Dev nD) (sm : SemLoc sig) : () ∈ L ((c : Thread nD τ), sm) := by
  rw [L, if_pos rfl]; exact Finset.mem_singleton_self _

/-- A tally that only owes to semaphores of rank above `b`. -/
def Above (b : ℕ) (O : CellTallies nD τ sig Unit) : Prop :=
  ∀ (g : GSem nD τ sig) (u : Unit), 0 < O g u → ∃ c ρ, g = cell c ρ ∧ b < rank ρ

theorem Above.add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0

theorem Above.zero (b : ℕ) : Above b 0 := fun g u hg => absurd hg (by simp)

theorem Above.sum {b : ℕ} {I : Type} (S : Finset I) (f : I → CellTallies nD τ sig Unit) (h : ∀ i, Above b (f i)) : Above b (∑ i ∈ S, f i) := by
  classical
  induction S using Finset.induction_on with
  | empty => rw [Finset.sum_empty]; exact Above.zero b
  | insert i S hi ih => rw [Finset.sum_insert hi]; exact (h i).add ih

theorem Above.tally {b : ℕ} (c : Dev nD) (ρ : Role) (n : ℕ) (h : b < rank ρ) : Above b (tallyAt (cell c ρ) () n) := by
  intro g u hg
  rw [tallyAt_apply] at hg
  by_cases hg' : g = cell c ρ ∧ u = ()
  · exact ⟨c, ρ, hg'.1, h⟩
  · rw [if_neg hg'] at hg; exact absurd hg (Nat.lt_irrefl 0)

theorem owedX_above (c : Dev nD) (k : ℕ) {b : ℕ} (h : b < 2) : Above b (owedX c k) := Above.sum _ _ fun j => Above.tally _ _ _ h
theorem owedY_above (c : Dev nD) (k : ℕ) {b : ℕ} (h : b < 3) : Above b (owedY c k) := Above.sum _ _ fun j => Above.tally _ _ _ h
theorem owedSends_above (c : Dev nD) : Above 1 (owedSends c) := (owedX_above c 0 (by decide)).add (owedY_above c 0 (by decide))
theorem owed0_above (c : Dev nD) : Above 0 (owed0 c) :=
  (((owedX_above c 0 (by decide)).add (owedY_above c 0 (by decide))).add (Above.tally _ _ _ (by decide))).add (Above.tally _ _ _ (by decide))

/-- A device that owes above a semaphore's rank may wait for it. -/
theorem may_wait (c : Dev nD) (sm : SemLoc sig) (O : CellTallies nD τ sig Unit) (hO : Above (rank (roleOf sm)) O) :
    (levAts L lv : sProp 𝕄) ⊢ MayWait (c : Thread nD τ) sm () O :=
  MayOwe.of_cut (L := L) (lev := lv) (rank (roleOf sm))
    (fun p hp => by rw [Finset.mem_singleton.mp hp]; exact mem_L c sm)
    (fun g u hg => by obtain ⟨c', ρ, rfl, -⟩ := hO g u hg; exact mem_L c' _)
    (fun p hp => by rw [Finset.mem_singleton.mp hp]; exact le_rfl)
    (fun g u hg => by
      obtain ⟨c', ρ, rfl, h⟩ := hO g u hg
      show _ < rank (roleOf (semOf ρ))
      rw [roleOf_semOf]; exact h)

end Cert.AllGather

end
-- ==== Proof.Steps.lean ====
/- One rule for each kind of statement of the kernel. -/
module

public import proofs.«01_k».proof.Proof.Protocol
public import proofs.«01_k».proof.Proof.Gen.KernelIdeal.Launch

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Role → ℕ)

/-! ## What every device knows -/

/-- Every semaphore's invariant and that it has reached its first round; the order of the waits. -/
def known : sProp 𝕄 :=
  iprop((bigSep Finset.univ fun p : Dev nD × Role => cellInv ER (sched m) (K p) (cell p.1 p.2))
    ∗ (bigSep Finset.univ fun p : Dev nD × Role => reached ER (cell p.1 p.2) 0) ∗ levAts L lv)

instance known_persistent : BI.Persistent (known m K) := by unfold known; infer_instance

theorem member {I : Type} [Fintype I] [DecidableEq I] (Φ : I → sProp 𝕄) (i : I) : bigSep Finset.univ Φ ⊢ Φ i :=
  BI.bigSep_elim (Finset.mem_univ i)

theorem known_inv (c : Dev nD) (ρ : Role) : known m K ⊢ cellInv ER (sched m) (K (c, ρ)) (cell c ρ) := by
  unfold known
  iintro ⟨H, -, -⟩
  iapply (member (F := F) (fun p : Dev nD × Role => cellInv ER (sched m) (K p) (cell p.1 p.2)) (c, ρ))
  iexact H
theorem known_reached (c : Dev nD) (ρ : Role) : known m K ⊢ reached ER (cell c ρ) 0 := by
  unfold known
  iintro ⟨-, H, -⟩
  iapply (member (F := F) (fun p : Dev nD × Role => reached ER (cell p.1 p.2) 0) (c, ρ))
  iexact H
theorem known_lev : known m K ⊢ levAts L lv := by
  unfold known
  iintro ⟨-, -, H⟩
  iexact H

/-- What device `c` owes, whatever it has waited for. -/
def owing (c : Dev nD) (O : CellTallies nD τ sig Unit) : sProp 𝕄 := iprop(∃ W, owes (c : Thread nD τ) O W)

/-- What a program must be run from, at device `c`. -/
abbrev runs (c : Dev nD) (p : Body F) (Q : PUnit → sProp 𝕄) : sProp 𝕄 :=
  wp frame (wpE (defs₀ (F := F)) 𝒱₀ (c : Thread nD τ) none) Set.univ p Q

/-! ## Waits -/

/-- A wait for the one landing of a round. -/
theorem wp_wait (c : Dev nD) (ρ : Role) (hρ : ρ ≠ .bar) {r : ℕ} (hr : r < turns ρ) {n : ℕ} (hn : n = credit ρ)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (semOf ρ) n Q)
    {O : CellTallies nD τ sig Unit} (hO : Above (rank ρ) O) (p : Body F) (Q : PUnit → sProp 𝕄) :
    iprop(known m K ∗ cred (tallyAt (cell c ρ) () (credit ρ)) ∗ owing c O ∗ atPos ER (cell c ρ) r ∅ 0)
      ⊢ iprop((owing c O ∗ atPos ER (cell c ρ) (r + 1) ∅ 0 ∗ reached ER (cell c ρ) (r + 1) ∗ pay m c ρ r false -∗ runs c p Q)
          -∗ runs c (.op w fun _ => p) Q) := by
  subst hn
  unfold owing
  iintro ⟨#HK, Hc, ⟨%W, HO⟩, Hat⟩ Hk
  iapply (Rounds.wp_wait_rest_token 𝒱₀ ER (sched m) (c : Thread nD τ) none (κ := K (c, ρ)) (sm := semOf ρ) hw (Set.mem_univ _) ()
      (O := O) (W := W) (R := r) (m := 0) (T := ∅) (by rw [Nat.zero_add]; exact (expect_cell m c ρ hρ hr).symm)) $$ [Hc HO Hat]
  · isplitr; · iapply (known_inv m K c ρ); iexact HK
    isplitl [Hc]; · iexact Hc
    isplitl [HO]; · iexact HO
    isplitr
    · iapply (may_wait c (semOf ρ) O (by rw [roleOf_semOf]; exact hO))
      iapply (known_lev m K); iexact HK
    iexact Hat
  iintro ⟨HO, Hat, Hr, Hpay⟩
  iapply Hk
  isplitl [HO]; · iexists _; iexact HO
  isplitl [Hat]; · iexact Hat
  isplitl [Hr]; · iexact Hr
  iapply (Entails.of_eq (rest_cell m c ρ hρ hr)); iexact Hpay

/-- The wait at the barrier. -/
theorem wp_barrier (c : Dev nD) (p : Body F) (Q : PUnit → sProp 𝕄) :
    iprop(known m K ∗ cred (tallyAt (cell c .bar) () 2) ∗ owing c (owedSends c) ∗ atPos ER (cell c .bar) 0 ∅ 0)
      ⊢ iprop((owing c (owedSends c) ∗ atPos ER (cell c .bar) 1 ∅ 0
              ∗ bigSep Finset.univ (roomX (F := F) c) ∗ bigSep Finset.univ (roomY (F := F) c) -∗ runs c p Q)
          -∗ runs c (.op (.semWait barSem 2) fun _ => p) Q) := by
  unfold owing
  iintro ⟨#HK, Hc, ⟨%W, HO⟩, Hat⟩ Hk
  iapply (Rounds.wp_wait_rest_token 𝒱₀ ER (sched m) (c : Thread nD τ) none (κ := K (c, .bar)) (sm := semOf .bar)
      (wpE_semWait_eq 𝒱₀ (c : Thread nD τ) none Set.univ) (Set.mem_univ _) ()
      (O := owedSends c) (W := W) (R := 0) (m := 0) (T := ∅) (by rw [Nat.zero_add]; exact (expect_bar m c).symm)) $$ [Hc HO Hat]
  · isplitr; · iapply (known_inv m K c .bar); iexact HK
    isplitl [Hc]; · iexact Hc
    isplitl [HO]; · iexact HO
    isplitr
    · iapply (may_wait c (semOf .bar) (owedSends c) (by rw [roleOf_semOf]; exact owedSends_above c))
      iapply (known_lev m K); iexact HK
    iexact Hat
  iintro ⟨HO, Hat, -, Hpay⟩
  ihave Hp := (Entails.of_eq (rest_bar m c)) $$ Hpay
  icases Hp with ⟨HX, HY⟩
  iapply Hk
  isplitl [HO]; · iexists _; iexact HO
  isplitl [Hat]; · iexact Hat
  isplitl [HX] <;> iassumption

/-! ## Signals -/

/-- A signal of a neighbour's barrier, with the rows the neighbour is to write. -/
theorem wp_signal (c n : Dev nD) (d : Bool) {O₀ O : CellTallies nD τ sig Unit} (hO : O₀ = O + tallyAt (cell n .bar) () 1)
    (p : Body F) (Q : PUnit → sProp 𝕄) :
    iprop(known m K ∗ owing c O₀ ∗ dutyTok ER (cell n .bar) 0 d ∗ pay m n .bar 0 d)
      ⊢ iprop((owing c O -∗ runs c p Q) -∗ runs c (.op (.semSignal ((n, .tc) : Thread nD τ) barSem 1) fun _ => p) Q) := by
  unfold owing
  iintro ⟨#HK, ⟨%W, HO⟩, Ht, Hp⟩ Hk
  iapply (Rounds.wp_signal 𝒱₀ ER (sched m) (c : Thread nD τ) none (dst := (n : Thread nD τ)) (κ := K (n, .bar)) (sem := barSem) (r := 0)
      (d := d) (by rw [show ((n : Thread nD τ), SemLoc.reg barSem) = cell n .bar from rfl, duties_cell m n .bar (by decide)]; exact Finset.mem_univ _)
      ((amount_cell m n .bar 0 d).trans (by decide)) () O hO) $$ [HO Ht Hp]
  · isplitr; · iapply (known_inv m K n .bar); iexact HK
    isplitl [HO]; · iexact HO
    isplitl [Ht]; · iexact Ht
    isplitl [Hp]; · iapply (Entails.of_eq (payload_cell m n .bar 0 d).symm); iexact Hp
    iapply (known_reached m K n .bar); iexact HK
  iintro HO
  iapply Hk
  iexists W; iexact HO

/-! ## Sends -/

/-- Rows of the result that hold what was read elsewhere hold what they are to hold, if that is the same. -/
theorem landed {sp : Space} {s : Shape} (c c' : Dev nD) (dst : Memref sig .tc .hbm s .f32) (src : Memref sig .tc sp s .f32)
    (fd : Buf (Elt F) (dst.view.loc (c : Thread nD τ))) (fs : Buf (Elt F) (src.view.loc (c' : Thread nD τ)))
    (g : Buf (Elt F) (dst.view.loc (c : Thread nD τ))) (h : dst.view.read (Elt F) g = src.view.read (Elt F) fs) :
    (dst.view.loc (c : Thread nD τ) ↦[dst.view.set]{fullShare} (dst.view.write (Elt F) fd (src.view.read (Elt F) fs) Finset.univ) : sProp 𝕄)
      = (dst.view.loc (c : Thread nD τ) ↦[dst.view.set]{fullShare} g) := by
  refine pointsTo_congr fun i hi => ?_
  obtain ⟨x, -, rfl⟩ := Finset.mem_map.mp hi
  rw [View.write_emb_of_mem _ _ (Finset.mem_univ x), ← h, View.read_apply, cast_cast, cast_eq]

/-- Over `x`. -/
theorem wp_sendX (c : Dev nD) (k : Fin 38) {O₀ O : CellTallies nD τ sig Unit}
    (hO : O₀ = O + tallyAt (cell (devX c) (.xr k)) () (credit (.xr k))) (p : Body F) (Q : PUnit → sProp 𝕄) :
    iprop(known m K ∗ owing c O₀ ∗ argAt m c (setA c k) fullShare.left ∗ roomX (F := F) c k
        ∗ dutyTok ER (cell c (.xs k)) 0 false ∗ dutyTok ER (cell (devX c) (.xr k)) 0 false)
      ⊢ iprop((owing c O ∗ cred (tallyAt (cell c (.xs k)) () (credit (.xs k))) -∗ runs c p Q) -∗ runs c (sendX c k p) Q) := by
  unfold owing roomX sendX
  iintro ⟨#HK, ⟨%W, HO⟩, Hx, ⟨%fd, Hd⟩, Ht, Ht'⟩ Hk
  unfold argAt outAt
  iapply (Rounds.wp_send_pointsTo 𝒱₀ ER (sched m) (c : Thread nD τ) none (c' := (devX c : Thread nD τ)) (κ₁ := K (c, .xs k)) (κ₂ := K (devX c, .xr k))
      (src := argA c k) (dst := outX c k) (sS := semOf (.xs k)) (sem := semOf (.xr k)) (q := fullShare.left) (fs := arg m c)
      (r₁ := 0) (r₂ := 0) (d₁ := false) (d₂ := false) (fd := fd)
      (mem_duties m c (.xs k) (by simp) Nat.one_pos) (mem_duties m (devX c) (.xr k) (by simp) Nat.one_pos)
      () () (credit (.xr k)) rfl (amount_cell m c (.xs k) 0 false) (amount_cell m (devX c) (.xr k) 0 false) O hO (W := W)
      (by rw [payload_cell]; exact BI.Entails.refl _)
      (by
        rw [payload_cell, landed (devX c) c (outX c k) (argA c k) fd (arg m c) (gathered m (devX c)) (funext fun x => gathered_outX m c k x)]
        show _ ⊢ outAt (devX c) (setY (devX c) k) (gathered m (devX c))
        rw [← setX_devX, devX_devX]
        exact BI.Entails.refl _)) $$ [HO Hx Hd Ht Ht']
  · isplitr; · iapply (known_inv m K c (.xs k)); iexact HK
    isplitr; · iapply (known_inv m K (devX c) (.xr k)); iexact HK
    isplitl [Hx]; · iexact Hx
    isplitl [Hd]; · iexact Hd
    isplitl [HO]; · iexact HO
    isplitl [Ht]; · iexact Ht
    isplitr; · iapply (known_reached m K c (.xs k)); iexact HK
    isplitl [Ht']; · iexact Ht'
    iapply (known_reached m K (devX c) (.xr k)); iexact HK
  iintro ⟨Hc, HO⟩
  iapply Hk
  isplitl [HO]; · iexists W; iexact HO
  iexact Hc

/-- Over `y`. -/
theorem wp_sendY (c : Dev nD) (k : Fin 38) {O₀ O : CellTallies nD τ sig Unit}
    (hO : O₀ = O + tallyAt (cell (devY c) (.yr k)) () (credit (.yr k))) (p : Body F) (Q : PUnit → sProp 𝕄) :
    iprop(known m K ∗ owing c O₀ ∗ outAt c (setY c k) (gathered m c) ∗ roomY (F := F) c k
        ∗ dutyTok ER (cell c (.ys k)) 0 false ∗ dutyTok ER (cell (devY c) (.yr k)) 0 false)
      ⊢ iprop((owing c O ∗ cred (tallyAt (cell c (.ys k)) () (credit (.ys k))) -∗ runs c p Q) -∗ runs c (sendY c k p) Q) := by
  unfold owing roomY sendY
  iintro ⟨#HK, ⟨%W, HO⟩, Hx, ⟨%fd, Hd⟩, Ht, Ht'⟩ Hk
  unfold outAt
  iapply (Rounds.wp_send_pointsTo 𝒱₀ ER (sched m) (c : Thread nD τ) none (c' := (devY c : Thread nD τ)) (κ₁ := K (c, .ys k)) (κ₂ := K (devY c, .yr k))
      (src := outY c k) (dst := outY c k) (sS := semOf (.ys k)) (sem := semOf (.yr k)) (q := fullShare) (fs := gathered m c)
      (r₁ := 0) (r₂ := 0) (d₁ := false) (d₂ := false) (fd := fd)
      (mem_duties m c (.ys k) (by simp) Nat.one_pos) (mem_duties m (devY c) (.yr k) (by simp) Nat.one_pos)
      () () (credit (.yr k)) rfl (amount_cell m c (.ys k) 0 false) (amount_cell m (devY c) (.yr k) 0 false) O hO (W := W)
      (by rw [payload_cell]; exact BI.Entails.refl _)
      (by
        rw [payload_cell, landed (devY c) c (outY c k) (outY c k) fd (gathered m c) (gathered m (devY c))
          (funext fun x => gathered_outY m c k _ (View.emb_mem_set _ x))]
        show _ ⊢ outAt (devY c) (setY (devY (devY c)) k) (gathered m (devY c))
        rw [devY_devY]
        exact BI.Entails.refl _)) $$ [HO Hx Hd Ht Ht']
  · isplitr; · iapply (known_inv m K c (.ys k)); iexact HK
    isplitr; · iapply (known_inv m K (devY c) (.yr k)); iexact HK
    isplitl [Hx]; · iexact Hx
    isplitl [Hd]; · iexact Hd
    isplitl [HO]; · iexact HO
    isplitl [Ht]; · iexact Ht
    isplitr; · iapply (known_reached m K c (.ys k)); iexact HK
    isplitl [Ht']; · iexact Ht'
    iapply (known_reached m K (devY c) (.yr k)); iexact HK
  iintro ⟨Hc, HO⟩
  iapply Hk
  isplitl [HO]; · iexists W; iexact HO
  iexact Hc

/-! ## Copies within a device -/

theorem slot_turn (j : Fin 16) : j.val / 4 < 4 := by have := stage_lt j; omega

/-- The load of stage `j` into its slot. -/
theorem wp_load (c : Dev nD) (j : Fin 16) (p : Body F) (Q : PUnit → sProp 𝕄) :
    iprop(known m K ∗ argAt m c (setL j) fullShare.right ∗ (∃ f, slotAt (F := F) c (slotOf j) f)
        ∗ dutyTok ER (cell c (.ld (slotOf j))) (j.val / 4) false ∗ reached ER (cell c (.ld (slotOf j))) (j.val / 4))
      ⊢ iprop((cred (tallyAt (cell c (.ld (slotOf j))) () (credit (.ld (slotOf j)))) -∗ runs c p Q) -∗ runs c (load j p) Q) := by
  unfold load
  iintro ⟨#HK, Hx, ⟨%fd, Hd⟩, Ht, Hr⟩ Hk
  unfold argAt slotAt
  iapply (Rounds.wp_copy_pointsTo 𝒱₀ ER (sched m) (c : Thread nD τ) none (κ := K (c, .ld (slotOf j)))
      (src := argL j) (dst := slot (slotOf j)) (sem := semOf (.ld (slotOf j))) (q := fullShare.right) (fs := arg m c) (fd := fd)
      (r := j.val / 4) (d := false)
      (mem_duties m c (.ld (slotOf j)) (by simp) (slot_turn j)) () (credit (.ld (slotOf j))) rfl (amount_cell m c _ _ false)
      (by
        rw [payload_cell]
        show _ ⊢ iprop(filled m c (slotOf j) (stageOf (slotOf j) (j.val / 4)) ∗ argAt m c (setL (stageOf (slotOf j) (j.val / 4))) fullShare.right)
        rw [stageOf_self]
        unfold filled slotAt argAt
        iintro ⟨H, Hx⟩
        isplitr [Hx]
        · iexists _
          isplitr
          swap; · iexact H
          ipureintro
          exact View.read_write_univ _ _
        · iexact Hx)) $$ [Hx Hd Ht Hr]
  · isplitr; · iapply (known_inv m K c (.ld (slotOf j))); iexact HK
    isplitl [Hx]; · iexact Hx
    isplitl [Hd]; · iexact Hd
    isplitl [Ht]; · iexact Ht
    iexact Hr
  iintro Hc
  iapply Hk
  iexact Hc

/-- The store of stage `j` out of its slot. -/
theorem wp_store (c : Dev nD) (j : Fin 16) (p : Body F) (Q : PUnit → sProp 𝕄) :
    iprop(known m K ∗ filled m c (slotOf j) j ∗ (∃ f, outAt (F := F) c (setS c j) f)
        ∗ dutyTok ER (cell c (.st (slotOf j))) (j.val / 4) false ∗ reached ER (cell c (.st (slotOf j))) (j.val / 4))
      ⊢ iprop((cred (tallyAt (cell c (.st (slotOf j))) () (credit (.st (slotOf j)))) -∗ runs c p Q) -∗ runs c (store c j p) Q) := by
  unfold store filled
  iintro ⟨#HK, ⟨%fs, %hf, Hx⟩, ⟨%fd, Hd⟩, Ht, Hr⟩ Hk
  unfold outAt slotAt
  iapply (Rounds.wp_copy_pointsTo 𝒱₀ ER (sched m) (c : Thread nD τ) none (κ := K (c, .st (slotOf j)))
      (src := slot (slotOf j)) (dst := outS c j) (sem := semOf (.st (slotOf j))) (q := fullShare) (fs := fs) (fd := fd)
      (r := j.val / 4) (d := false)
      (mem_duties m c (.st (slotOf j)) (by simp) (slot_turn j)) () (credit (.st (slotOf j))) rfl (amount_cell m c _ _ false)
      (by
        rw [payload_cell, landed c c (outS c j) (slot (slotOf j)) fd fs (gathered m c)
          (by rw [hf]; exact funext fun x => gathered_outS m c j x)]
        show _ ⊢ iprop((∃ f, slotAt (F := F) c (slotOf j) f) ∗ outAt c (setS c (stageOf (slotOf j) (j.val / 4))) (gathered m c))
        rw [stageOf_self]
        unfold slotAt outAt
        iintro ⟨H, Hx⟩
        isplitl [Hx]
        · iexists fs; iexact Hx
        · iexact H)) $$ [Hx Hd Ht Hr]
  · isplitr; · iapply (known_inv m K c (.st (slotOf j))); iexact HK
    isplitl [Hx]; · iexact Hx
    isplitl [Hd]; · iexact Hd
    isplitl [Ht]; · iexact Ht
    iexact Hr
  iintro Hc
  iapply Hk
  iexact Hc

end Cert.AllGather

end
-- ==== Proof.Chunks.lean ====
/- The loops over the chunks: sent over `x`, received and sent on over `y`, received over `y`, and the sends' own waits. -/
module

public import proofs.«01_k».proof.Proof.Steps

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-! ## A loop over the chunks -/

theorem from_split (Φ : Fin 38 → sProp 𝕄) (k : Fin 38) :
    bigSep (Finset.univ.filter fun j : Fin 38 => k.val ≤ j.val) Φ
      = iprop(Φ k ∗ bigSep (Finset.univ.filter fun j : Fin 38 => k.val + 1 ≤ j.val) Φ) := by
  rw [from_succ]; exact BI.bigSep_insert (not_mem_from k)

theorem wp_over_from (R : sProp 𝕄) [BI.Persistent R] (c : Dev nD) (f : Fin 38 → Body F → Body F) (S : ℕ → sProp 𝕄) (Pre Post : Fin 38 → sProp 𝕄)
    (h : ∀ (k : Fin 38) (p : Body F) (Q : PUnit → sProp 𝕄),
      iprop(R ∗ S k.val ∗ Pre k) ⊢ iprop((S (k.val + 1) ∗ Post k -∗ runs c p Q) -∗ runs c (f k p) Q))
    (p : Body F) (Q : PUnit → sProp 𝕄) (n : ℕ) (hn : n ≤ 38) :
    iprop(R ∗ S (38 - n) ∗ bigSep (Finset.univ.filter fun j : Fin 38 => 38 - n ≤ j.val) Pre)
      ⊢ iprop((S 38 ∗ bigSep (Finset.univ.filter fun j : Fin 38 => 38 - n ≤ j.val) Post -∗ runs c p Q) -∗ runs c (over f p n hn) Q) := by
  induction n with
  | zero =>
    show iprop(R ∗ S 38 ∗ bigSep (Finset.univ.filter fun j : Fin 38 => 38 ≤ j.val) Pre)
      ⊢ iprop((S 38 ∗ bigSep (Finset.univ.filter fun j : Fin 38 => 38 ≤ j.val) Post -∗ runs c p Q) -∗ runs c p Q)
    rw [from_end, bigSep_empty, bigSep_empty]
    iintro ⟨-, H⟩ Hk
    iapply Hk $$ [H]
    iexact H
  | succ n ih =>
    have e : 38 - n = 38 - (n + 1) + 1 := by omega
    have ih' := ih (Nat.le_of_succ_le hn)
    rw [e] at ih'
    have hk : 38 - (n + 1) < 38 := by omega
    have s1 := from_split (F := F) Pre ⟨38 - (n + 1), hk⟩
    have s2 := from_split (F := F) Post ⟨38 - (n + 1), hk⟩
    rw [s1, s2]
    show _ ⊢ iprop(_ -∗ runs c (f ⟨38 - (n + 1), hk⟩ (over f p n (Nat.le_of_succ_le hn))) Q)
    iintro ⟨#HR, HS, HP, Hrest⟩ Hk
    iapply (h ⟨38 - (n + 1), hk⟩ (over f p n (Nat.le_of_succ_le hn)) Q) $$ [HS HP]
    · isplitr; · iexact HR
      isplitl [HS] <;> iassumption
    iintro ⟨HS, HQ⟩
    iapply ih' $$ [HS Hrest]
    · isplitr; · iexact HR
      isplitl [HS] <;> iassumption
    iintro ⟨HS, Hrest⟩
    iapply Hk
    isplitl [HS]; · iexact HS
    isplitl [HQ] <;> iassumption

/-- A loop over all the chunks, each taking what it needs and leaving what it makes, beside what passes from one to the next. -/
theorem wp_over (R : sProp 𝕄) [BI.Persistent R] (c : Dev nD) (f : Fin 38 → Body F → Body F) (S : ℕ → sProp 𝕄) (Pre Post : Fin 38 → sProp 𝕄)
    (h : ∀ (k : Fin 38) (p : Body F) (Q : PUnit → sProp 𝕄),
      iprop(R ∗ S k.val ∗ Pre k) ⊢ iprop((S (k.val + 1) ∗ Post k -∗ runs c p Q) -∗ runs c (f k p) Q))
    (p : Body F) (Q : PUnit → sProp 𝕄) :
    iprop(R ∗ S 0 ∗ bigSep Finset.univ Pre)
      ⊢ iprop((S 38 ∗ bigSep Finset.univ Post -∗ runs c p Q) -∗ runs c (over f p 38 le_rfl) Q) := by
  have e : Finset.univ.filter (fun j : Fin 38 => 38 - 38 ≤ j.val) = Finset.univ :=
    Finset.filter_true_of_mem fun j _ => Nat.zero_le _
  have := wp_over_from R c f S Pre Post h p Q 38 le_rfl
  rw [e] at this
  exact this

/-! ## What the landings pay -/

theorem pay_xs (c : Dev nD) (k : Fin 38) : pay m c (.xs k) 0 false = argAt m c (setA c k) fullShare.left := rfl
theorem pay_xr (c : Dev nD) (k : Fin 38) : pay m c (.xr k) 0 false = outAt c (setY c k) (gathered m c) := rfl
theorem pay_ys (c : Dev nD) (k : Fin 38) : pay m c (.ys k) 0 false = outAt c (setY c k) (gathered m c) := rfl
theorem pay_yr (c : Dev nD) (k : Fin 38) : pay m c (.yr k) 0 false = outAt c (setY (devY c) k) (gathered m c) := rfl

/-! ## The chunks over `x` -/

/-- What the send of chunk `k` over `x` takes. -/
def toSendX (c : Dev nD) (k : Fin 38) : sProp 𝕄 :=
  iprop(argAt m c (setA c k) fullShare.left ∗ roomX (F := F) c k
    ∗ dutyTok ER (cell c (.xs k)) 0 false ∗ dutyTok ER (cell (devX c) (.xr k)) 0 false)

theorem wp_sendX_step (c : Dev nD) (k : Fin 38) (p : Body F) (Q : PUnit → sProp 𝕄) :
    iprop(known m K ∗ owing c (owedX c k.val + owedY c 0) ∗ toSendX m c k)
      ⊢ iprop((owing c (owedX c (k.val + 1) + owedY c 0) ∗ cred (tallyAt (cell c (.xs k)) () (credit (.xs k))) -∗ runs c p Q)
          -∗ runs c (sendX c k p) Q) := by
  unfold toSendX
  exact wp_sendX m K c k (by rw [owedX_succ, add_right_comm]) p Q

/-! ## The sends' own waits -/

/-- What the two waits for what has left of chunk `k` take, -/
def toLeave (c : Dev nD) (k : Fin 38) : sProp 𝕄 :=
  iprop((cred (tallyAt (cell c (.xs k)) () (credit (.xs k))) ∗ atPos ER (cell c (.xs k)) 0 ∅ 0)
    ∗ (cred (tallyAt (cell c (.ys k)) () (credit (.ys k))) ∗ atPos ER (cell c (.ys k)) 0 ∅ 0))
/-- and what they give. -/
def leftOver (c : Dev nD) (k : Fin 38) : sProp 𝕄 :=
  iprop((atPos ER (cell c (.xs k)) 1 ∅ 0 ∗ argAt m c (setA c k) fullShare.left)
    ∗ (atPos ER (cell c (.ys k)) 1 ∅ 0 ∗ outAt c (setY c k) (gathered m c)))

theorem wp_leave_step (c : Dev nD) (k : Fin 38) (p : Body F) (Q : PUnit → sProp 𝕄) :
    iprop(known m K ∗ owing c 0 ∗ toLeave (F := F) c k)
      ⊢ iprop((owing c 0 ∗ leftOver m c k -∗ runs c p Q) -∗ runs c (leftX c k (leftY c k p)) Q) := by
  unfold toLeave leftOver leftX
  iintro ⟨#HK, HO, ⟨Hcx, Hax⟩, ⟨Hcy, Hay⟩⟩ Hk
  iapply (wp_wait m K c (.xs k) (by simp) (r := 0) Nat.one_pos (credit_argA c k) (wpE_waitDma2_eq 𝒱₀ (c : Thread nD τ) none Set.univ)
    (O := 0) (Above.zero _)) $$ [Hcx HO Hax]
  · isplitr; · iexact HK
    isplitl [Hcx]; · iexact Hcx
    isplitl [HO] <;> iassumption
  iintro ⟨HO, Hax, -, Hx⟩
  unfold leftY
  iapply (wp_wait m K c (.ys k) (by simp) (r := 0) Nat.one_pos (credit_outY c k) (wpE_waitDma2_eq 𝒱₀ (c : Thread nD τ) none Set.univ)
    (O := 0) (Above.zero _)) $$ [Hcy HO Hay]
  · isplitr; · iexact HK
    isplitl [Hcy]; · iexact Hcy
    isplitl [HO] <;> iassumption
  iintro ⟨HO, Hay, -, Hy⟩
  iapply Hk
  isplitl [HO]; · iexact HO
  isplitl [Hax Hx]
  · isplitl [Hax]; · iexact Hax
    iapply (Entails.of_eq (pay_xs m c k)) $$ Hx
  isplitl [Hay]; · iexact Hay
  iapply (Entails.of_eq (pay_ys m c k)) $$ Hy

/-! ## What comes over `y` -/

/-- What the wait for chunk `k` over `y` takes, -/
def toRecvY (c : Dev nD) (k : Fin 38) : sProp 𝕄 :=
  iprop(cred (tallyAt (cell c (.yr k)) () (credit (.yr k))) ∗ atPos ER (cell c (.yr k)) 0 ∅ 0)
/-- and what it gives. -/
def recvdY (c : Dev nD) (k : Fin 38) : sProp 𝕄 :=
  iprop(atPos ER (cell c (.yr k)) 1 ∅ 0 ∗ outAt c (setY (devY c) k) (gathered m c))

theorem wp_recvY_step (c : Dev nD) (k : Fin 38) (p : Body F) (Q : PUnit → sProp 𝕄) :
    iprop(known m K ∗ owing c 0 ∗ toRecvY (F := F) c k)
      ⊢ iprop((owing c 0 ∗ recvdY m c k -∗ runs c p Q) -∗ runs c (recvY c k p) Q) := by
  unfold toRecvY recvdY recvY
  iintro ⟨#HK, HO, Hc, Ha⟩ Hk
  iapply (wp_wait m K c (.yr k) (by simp) (r := 0) Nat.one_pos (credit_outY c k) (wpE_waitDma2_eq 𝒱₀ (c : Thread nD τ) none Set.univ)
    (O := 0) (Above.zero _)) $$ [Hc HO Ha]
  · isplitr; · iexact HK
    isplitl [Hc]; · iexact Hc
    isplitl [HO] <;> iassumption
  iintro ⟨HO, Ha, -, Hy⟩
  iapply Hk
  isplitl [HO]; · iexact HO
  isplitl [Ha]; · iexact Ha
  iapply (Entails.of_eq (pay_yr m c k)) $$ Hy

/-! ## What comes over `x` and is sent on over `y` -/

/-- What receiving chunk `k` over `x` and sending it on takes, -/
def toPass (c : Dev nD) (k : Fin 38) : sProp 𝕄 :=
  iprop((cred (tallyAt (cell c (.xr k)) () (credit (.xr k))) ∗ atPos ER (cell c (.xr k)) 0 ∅ 0) ∗ roomY (F := F) c k
    ∗ dutyTok ER (cell c (.ys k)) 0 false ∗ dutyTok ER (cell (devY c) (.yr k)) 0 false)
/-- and what it gives. -/
def passed (c : Dev nD) (k : Fin 38) : sProp 𝕄 :=
  iprop(atPos ER (cell c (.xr k)) 1 ∅ 0 ∗ cred (tallyAt (cell c (.ys k)) () (credit (.ys k))))

theorem wp_pass (c : Dev nD) (k : Fin 38) (p : Body F) (Q : PUnit → sProp 𝕄) :
    iprop(known m K ∗ owing c (owedY c k.val) ∗ toPass (F := F) c k)
      ⊢ iprop((owing c (owedY c (k.val + 1)) ∗ passed (F := F) c k -∗ runs c p Q) -∗ runs c (recvX c k (sendY c k p)) Q) := by
  unfold toPass passed recvX
  iintro ⟨#HK, HO, ⟨Hc, Ha⟩, Hr, Ht, Ht'⟩ Hk
  iapply (wp_wait m K c (.xr k) (by simp) (r := 0) Nat.one_pos (credit_outX c k) (wpE_waitDma2_eq 𝒱₀ (c : Thread nD τ) none Set.univ)
    (O := owedY c k.val) (owedY_above c k.val (by show 2 < 3; decide))) $$ [Hc HO Ha]
  · isplitr; · iexact HK
    isplitl [Hc]; · iexact Hc
    isplitl [HO] <;> iassumption
  iintro ⟨HO, Ha, -, Hx⟩
  ihave Hx := (Entails.of_eq (pay_xr m c k)) $$ Hx
  iapply (wp_sendY m K c k (owedY_succ c k)) $$ [HO Hx Hr Ht Ht']
  · isplitr; · iexact HK
    isplitl [HO]; · iexact HO
    isplitl [Hx]; · iexact Hx
    isplitl [Hr]; · iexact Hr
    isplitl [Ht] <;> iassumption
  iintro ⟨HO, Hc⟩
  iapply Hk
  isplitl [HO]; · iexact HO
  isplitl [Ha] <;> iassumption

end Cert.AllGather

end
-- ==== Proof.Stages.lean ====
/- The device's own half, staged through the four slots. A stage waits, is being loaded, is being stored, is done; a slot serves
   the stages that differ by fours. -/
module

public import proofs.«01_k».proof.Proof.Chunks

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-! ## Where a stage is -/

/-- Not begun. -/
def waiting (c : Dev nD) (j : Fin 16) : sProp 𝕄 :=
  iprop((argAt m c (setL j) fullShare.right ∗ dutyTok ER (cell c (.ld (slotOf j))) (j.val / 4) false)
    ∗ dutyTok ER (cell c (.st (slotOf j))) (j.val / 4) false ∗ (∃ f, outAt (F := F) c (setS c j) f))
/-- Its rows are on the way into its slot. -/
def loading (c : Dev nD) (j : Fin 16) : sProp 𝕄 :=
  iprop((cred (tallyAt (cell c (.ld (slotOf j))) () (credit (.ld (slotOf j)))) ∗ atPos ER (cell c (.ld (slotOf j))) (j.val / 4) ∅ 0)
    ∗ (dutyTok ER (cell c (.st (slotOf j))) (j.val / 4) false ∗ (∃ f, outAt (F := F) c (setS c j) f))
    ∗ atPos ER (cell c (.st (slotOf j))) (j.val / 4) ∅ 0 ∗ reached ER (cell c (.st (slotOf j))) (j.val / 4))
/-- Its rows are on the way out of its slot. -/
def storing (c : Dev nD) (j : Fin 16) : sProp 𝕄 :=
  iprop((cred (tallyAt (cell c (.st (slotOf j))) () (credit (.st (slotOf j)))) ∗ atPos ER (cell c (.st (slotOf j))) (j.val / 4) ∅ 0)
    ∗ argAt m c (setL j) fullShare.right
    ∗ atPos ER (cell c (.ld (slotOf j))) (j.val / 4 + 1) ∅ 0 ∗ reached ER (cell c (.ld (slotOf j))) (j.val / 4 + 1))
/-- Its rows have arrived. -/
def finished (c : Dev nD) (j : Fin 16) : sProp 𝕄 :=
  iprop(argAt m c (setL j) fullShare.right ∗ outAt c (setS c j) (gathered m c))
/-- The slot `s` between stages, before its turn `r`. -/
def idle (c : Dev nD) (s : Fin 4) (r : ℕ) : sProp 𝕄 :=
  iprop((∃ f, slotAt (F := F) c s f) ∗ (atPos ER (cell c (.ld s)) r ∅ 0 ∗ reached ER (cell c (.ld s)) r)
    ∗ atPos ER (cell c (.st s)) r ∅ 0 ∗ reached ER (cell c (.st s)) r)

theorem pay_ld (c : Dev nD) (j : Fin 16) : pay m c (.ld (slotOf j)) (j.val / 4) false
    = iprop(filled m c (slotOf j) j ∗ argAt m c (setL j) fullShare.right) := by
  show iprop(filled m c (slotOf j) (stageOf (slotOf j) (j.val / 4)) ∗ argAt m c (setL (stageOf (slotOf j) (j.val / 4))) fullShare.right) = _
  rw [stageOf_self]
theorem pay_st (c : Dev nD) (j : Fin 16) : pay m c (.st (slotOf j)) (j.val / 4) false
    = iprop((∃ f, slotAt (F := F) c (slotOf j) f) ∗ outAt c (setS c j) (gathered m c)) := by
  show iprop((∃ f, slotAt (F := F) c (slotOf j) f) ∗ outAt c (setS c (stageOf (slotOf j) (j.val / 4))) (gathered m c)) = _
  rw [stageOf_self]

/-! ## One stage's steps -/

theorem begin_load (c : Dev nD) (j : Fin 16) (p : Body F) (Q : PUnit → sProp 𝕄) :
    iprop(known m K ∗ idle (F := F) c (slotOf j) (j.val / 4) ∗ waiting m c j)
      ⊢ iprop((loading (F := F) c j -∗ runs c p Q) -∗ runs c (load j p) Q) := by
  unfold idle waiting loading
  iintro ⟨#HK, ⟨Hs, ⟨Hal, Hrl⟩, Has, Hrs⟩, ⟨Hx, Htl⟩, Hts, Ho⟩ Hk
  iapply (wp_load m K c j) $$ [Hx Hs Htl Hrl]
  · isplitr; · iexact HK
    isplitl [Hx]; · iexact Hx
    isplitl [Hs]; · iexact Hs
    isplitl [Htl] <;> iassumption
  iintro Hc
  iapply Hk
  isplitl [Hc Hal]
  · isplitl [Hc] <;> iassumption
  isplitl [Hts Ho]
  · isplitl [Hts] <;> iassumption
  isplitl [Has] <;> iassumption

theorem load_to_store (c : Dev nD) (j : Fin 16) {O : CellTallies nD τ sig Unit} (hO : Above 0 O) (p : Body F) (Q : PUnit → sProp 𝕄) :
    iprop(known m K ∗ owing c O ∗ loading (F := F) c j)
      ⊢ iprop((owing c O ∗ storing m c j -∗ runs c p Q) -∗ runs c (loaded j (store c j p)) Q) := by
  unfold loading storing loaded
  iintro ⟨#HK, HO, ⟨Hcl, Hal⟩, ⟨Hts, Ho⟩, Has, Hrs⟩ Hk
  iapply (wp_wait m K c (.ld (slotOf j)) (by simp) (slot_turn j) (credit_slot _) (wpE_waitDma2_eq 𝒱₀ (c : Thread nD τ) none Set.univ)
    hO) $$ [Hcl HO Hal]
  · isplitr; · iexact HK
    isplitl [Hcl]; · iexact Hcl
    isplitl [HO] <;> iassumption
  iintro ⟨HO, Hal, Hrl, Hp⟩
  ihave Hp := (Entails.of_eq (pay_ld m c j)) $$ Hp
  icases Hp with ⟨Hf, Hx⟩
  iapply (wp_store m K c j) $$ [Hf Ho Hts Hrs]
  · isplitr; · iexact HK
    isplitl [Hf]; · iexact Hf
    isplitl [Ho]; · iexact Ho
    isplitl [Hts] <;> iassumption
  iintro Hc
  iapply Hk
  isplitl [HO]; · iexact HO
  isplitl [Hc Has]
  · isplitl [Hc] <;> iassumption
  isplitl [Hx]; · iexact Hx
  isplitl [Hal] <;> iassumption

theorem end_store (c : Dev nD) (j : Fin 16) {O : CellTallies nD τ sig Unit} (hO : Above 0 O) (p : Body F) (Q : PUnit → sProp 𝕄) :
    iprop(known m K ∗ owing c O ∗ storing m c j)
      ⊢ iprop((owing c O ∗ finished m c j ∗ idle (F := F) c (slotOf j) (j.val / 4 + 1) -∗ runs c p Q) -∗ runs c (stored c j p) Q) := by
  unfold storing finished idle stored
  iintro ⟨#HK, HO, ⟨Hcs, Has⟩, Hx, Hal, Hrl⟩ Hk
  iapply (wp_wait m K c (.st (slotOf j)) (by simp) (slot_turn j) (credit_outS c j) (wpE_waitDma2_eq 𝒱₀ (c : Thread nD τ) none Set.univ)
    hO) $$ [Hcs HO Has]
  · isplitr; · iexact HK
    isplitl [Hcs]; · iexact Hcs
    isplitl [HO] <;> iassumption
  iintro ⟨HO, Has, Hrs, Hp⟩
  ihave Hp := (Entails.of_eq (pay_st m c j)) $$ Hp
  icases Hp with ⟨Hs, Ho⟩
  iapply Hk
  isplitl [HO]; · iexact HO
  isplitl [Hx Ho]
  · isplitl [Hx] <;> iassumption
  isplitl [Hs]; · iexact Hs
  isplitl [Hal Hrl]
  · isplitl [Hal] <;> iassumption
  isplitl [Has] <;> iassumption

/-! ## The stages together -/

/-- Where stage `j` is once `k` stages have begun. -/
def place (c : Dev nD) (k : ℕ) (j : Fin 16) : sProp 𝕄 :=
  if k ≤ j.val then waiting m c j else if k = j.val + 1 then loading (F := F) c j
    else if k ≤ j.val + 4 then storing m c j else finished m c j
/-- The slots not used yet. -/
def unused (c : Dev nD) (k : ℕ) (s : Fin 4) : sProp 𝕄 := if k ≤ s.val then idle (F := F) c s 0 else iprop(emp)

/-- Stage `j` once the oldest of the four before `k` is done, -/
def place1 (c : Dev nD) (k : ℕ) (j : Fin 16) : sProp 𝕄 := if k = j.val + 4 then finished m c j else place m c k j
/-- and once `k` is being loaded. -/
def place2 (c : Dev nD) (k : ℕ) (j : Fin 16) : sProp 𝕄 := if k = j.val then loading (F := F) c j else place1 m c k j

theorem place_next (c : Dev nD) (k : ℕ) (j : Fin 16) (h : k ≠ j.val + 1) : place m c (k + 1) j = place2 m c k j := by
  unfold place2 place1 place
  split_ifs <;> first | rfl | omega

/-- The slot of stage `k`, freed by the stage that used it before or not used yet. -/
theorem free_slot (c : Dev nD) (k : Fin 16) {O : CellTallies nD τ sig Unit} (hO : Above 0 O) (p : Body F) (Q : PUnit → sProp 𝕄) :
    iprop(known m K ∗ owing c O ∗ bigSep Finset.univ (place m c k.val) ∗ bigSep Finset.univ (unused (F := F) c k.val))
      ⊢ iprop((owing c O ∗ bigSep Finset.univ (place1 m c k.val) ∗ bigSep Finset.univ (unused (F := F) c (k.val + 1))
              ∗ idle (F := F) c (slotOf k) (k.val / 4) -∗ runs c p Q)
          -∗ runs c (if h4 : 4 ≤ k.val then stored c ⟨k.val - 4, by omega⟩ p else p) Q) := by
  by_cases h4 : 4 ≤ k.val
  · rw [dif_pos h4]
    have hk := k.isLt
    have hs : slotOf ⟨k.val - 4, by omega⟩ = slotOf k := Fin.ext (by show (k.val - 4) % 4 = k.val % 4; omega)
    have hr : (k.val - 4) / 4 + 1 = k.val / 4 := by omega
    have e0 : place m c k.val ⟨k.val - 4, by omega⟩ = storing m c ⟨k.val - 4, by omega⟩ := by
      unfold place; rw [if_neg (by show ¬ k.val ≤ k.val - 4; omega), if_neg (by show ¬ k.val = k.val - 4 + 1; omega),
        if_pos (by show k.val ≤ k.val - 4 + 4; omega)]
    have e1 : place1 m c k.val ⟨k.val - 4, by omega⟩ = finished m c ⟨k.val - 4, by omega⟩ := by
      unfold place1; rw [if_pos (by show k.val = k.val - 4 + 4; omega)]
    have eu : unused (F := F) c k.val = unused c (k.val + 1) := funext fun s => by
      unfold unused; rw [if_neg (by omega), if_neg (by omega)]
    have upd := bigSep_univ_update (Φ := place m c k.val) (Ψ := place1 m c k.val) (⟨k.val - 4, by omega⟩ : Fin 16) (fun j hj => by
      unfold place1; exact if_neg fun h => hj (Fin.ext (by show j.val = k.val - 4; omega)))
    rw [e0, e1] at upd
    rw [eu]
    have st := end_store m K c ⟨k.val - 4, by omega⟩ hO p Q
    rw [hs] at st
    rw [show (⟨k.val - 4, by omega⟩ : Fin 16).val / 4 + 1 = k.val / 4 from hr] at st
    iintro ⟨#HK, HO, HP, HU⟩ Hk
    ihave H := upd $$ HP
    icases H with ⟨HC, Hback⟩
    iapply st $$ [HO HC]
    · isplitr; · iexact HK
      isplitl [HO] <;> iassumption
    iintro ⟨HO, HD, Hidle⟩
    iapply Hk
    isplitl [HO]; · iexact HO
    isplitl [HD Hback]; · iapply Hback; iexact HD
    isplitl [HU] <;> iassumption
  · rw [dif_neg h4]
    have hs : (slotOf k).val = k.val := by show k.val % 4 = k.val; omega
    have hr : k.val / 4 = 0 := by omega
    have ep : place1 m c k.val = place m c k.val := funext fun j => by
      unfold place1; exact if_neg (by omega)
    have e0 : unused (F := F) c k.val (slotOf k) = idle c (slotOf k) 0 := by unfold unused; exact if_pos (le_of_eq hs.symm)
    have e1 : unused (F := F) c (k.val + 1) (slotOf k) = iprop(emp) := by unfold unused; exact if_neg (by omega)
    have upd := bigSep_univ_update (Φ := unused (F := F) c k.val) (Ψ := unused c (k.val + 1)) (slotOf k) (fun s hne => by
      have : s.val ≠ k.val := fun h => hne (Fin.ext (h.trans hs.symm))
      unfold unused; split_ifs <;> first | rfl | omega)
    rw [e0, e1] at upd
    rw [ep, hr]
    iintro ⟨#HK, HO, HP, HU⟩ Hk
    ihave H := upd $$ HU
    icases H with ⟨Hidle, Hback⟩
    iapply Hk
    isplitl [HO]; · iexact HO
    isplitl [HP]; · iexact HP
    isplitl [Hback]
    · iapply Hback; iempintro
    iexact Hidle

/-- Stage `k` begins. -/
theorem begin_stage (c : Dev nD) (k : Fin 16) (p : Body F) (Q : PUnit → sProp 𝕄) :
    iprop(known m K ∗ bigSep Finset.univ (place1 m c k.val) ∗ idle (F := F) c (slotOf k) (k.val / 4))
      ⊢ iprop((bigSep Finset.univ (place2 m c k.val) -∗ runs c p Q) -∗ runs c (load k p) Q) := by
  have e0 : place1 m c k.val k = waiting m c k := by
    unfold place1 place; rw [if_neg (by omega), if_pos (le_refl _)]
  have e1 : place2 m c k.val k = loading c k := by unfold place2; rw [if_pos rfl]
  have upd := bigSep_univ_update (Φ := place1 m c k.val) (Ψ := place2 m c k.val) k (fun j hj => by
    unfold place2; exact if_neg fun h => hj (Fin.ext h.symm))
  rw [e0, e1] at upd
  iintro ⟨#HK, HP, Hidle⟩ Hk
  ihave H := upd $$ HP
  icases H with ⟨HA, Hback⟩
  iapply (begin_load m K c k) $$ [Hidle HA]
  · isplitr; · iexact HK
    isplitl [Hidle] <;> iassumption
  iintro HB
  iapply Hk
  iapply Hback
  iexact HB

/-- The stage before turns to its store. -/
theorem turn_stage (c : Dev nD) (k : Fin 16) {O : CellTallies nD τ sig Unit} (hO : Above 0 O) (p : Body F) (Q : PUnit → sProp 𝕄) :
    iprop(known m K ∗ owing c O ∗ bigSep Finset.univ (place2 m c k.val))
      ⊢ iprop((owing c O ∗ bigSep Finset.univ (place m c (k.val + 1)) -∗ runs c p Q)
          -∗ runs c (if h1 : 1 ≤ k.val then loaded ⟨k.val - 1, by omega⟩ (store c ⟨k.val - 1, by omega⟩ p) else p) Q) := by
  by_cases h1 : 1 ≤ k.val
  · rw [dif_pos h1]
    have hk := k.isLt
    have e0 : place2 m c k.val ⟨k.val - 1, by omega⟩ = loading c ⟨k.val - 1, by omega⟩ := by
      unfold place2 place1 place
      rw [if_neg (by show ¬ k.val = k.val - 1; omega), if_neg (by show ¬ k.val = k.val - 1 + 4; omega),
        if_neg (by show ¬ k.val ≤ k.val - 1; omega), if_pos (by show k.val = k.val - 1 + 1; omega)]
    have e1 : place m c (k.val + 1) ⟨k.val - 1, by omega⟩ = storing m c ⟨k.val - 1, by omega⟩ := by
      unfold place
      rw [if_neg (by show ¬ k.val + 1 ≤ k.val - 1; omega), if_neg (by show ¬ k.val + 1 = k.val - 1 + 1; omega),
        if_pos (by show k.val + 1 ≤ k.val - 1 + 4; omega)]
    have upd := bigSep_univ_update (Φ := place2 m c k.val) (Ψ := place m c (k.val + 1)) (⟨k.val - 1, by omega⟩ : Fin 16) (fun j hj =>
      place_next m c k.val j fun h => hj (Fin.ext (by show j.val = k.val - 1; omega)))
    rw [e0, e1] at upd
    have st := load_to_store m K c ⟨k.val - 1, by omega⟩ hO p Q
    iintro ⟨#HK, HO, HP⟩ Hk
    ihave H := upd $$ HP
    icases H with ⟨HB, Hback⟩
    iapply st $$ [HO HB]
    · isplitr; · iexact HK
      isplitl [HO] <;> iassumption
    iintro ⟨HO, HC⟩
    iapply Hk
    isplitl [HO]; · iexact HO
    iapply Hback
    iexact HC
  · rw [dif_neg h1]
    have e : place2 m c k.val = place m c (k.val + 1) := funext fun j => (place_next m c k.val j (by omega)).symm
    rw [e]
    iintro ⟨#HK, HO, HP⟩ Hk
    iapply Hk
    isplitl [HO] <;> iassumption

/-- The stages and the slots once `k` stages have begun, of the sixteen. -/
def stages (c : Dev nD) (k : ℕ) : sProp 𝕄 :=
  iprop(bigSep Finset.univ (place m c (min k 16)) ∗ bigSep Finset.univ (unused (F := F) c (min k 16)))

theorem wp_stage (c : Dev nD) (k : Fin 38) {O : CellTallies nD τ sig Unit} (hO : Above 0 O) (p : Body F) (Q : PUnit → sProp 𝕄) :
    iprop(known m K ∗ owing c O ∗ stages m c k.val)
      ⊢ iprop((owing c O ∗ stages m c (k.val + 1) -∗ runs c p Q) -∗ runs c (stage c k p) Q) := by
  unfold stages stage
  by_cases h : k.val < 16
  · rw [dif_pos h, show min k.val 16 = k.val by omega, show min (k.val + 1) 16 = k.val + 1 by omega]
    dsimp only
    iintro ⟨#HK, HO, HP, HU⟩ Hk
    iapply (free_slot m K c ⟨k.val, h⟩ hO) $$ [HO HP HU]
    · isplitr; · iexact HK
      isplitl [HO]; · iexact HO
      isplitl [HP] <;> iassumption
    iintro ⟨HO, HP, HU, Hidle⟩
    iapply (begin_stage m K c ⟨k.val, h⟩) $$ [HP Hidle]
    · isplitr; · iexact HK
      isplitl [HP] <;> iassumption
    iintro HP
    iapply (turn_stage m K c ⟨k.val, h⟩ hO) $$ [HO HP]
    · isplitr; · iexact HK
      isplitl [HO] <;> iassumption
    iintro ⟨HO, HP⟩
    iapply Hk
    isplitl [HO]; · iexact HO
    isplitl [HP] <;> iassumption
  · rw [dif_neg h, show min k.val 16 = 16 by omega, show min (k.val + 1) 16 = 16 by omega]
    iintro ⟨#HK, HO, HP, HU⟩ Hk
    iapply Hk
    isplitl [HO]; · iexact HO
    isplitl [HP] <;> iassumption

/-! ## The last stages -/

/-- Stage `j` after the last turn to a store, with the stores in `s` still to be waited for. -/
def ending (c : Dev nD) (s : Finset (Fin 16)) (j : Fin 16) : sProp 𝕄 := if j ∈ s then storing m c j else finished m c j

theorem end_turn (c : Dev nD) {O : CellTallies nD τ sig Unit} (hO : Above 0 O) (p : Body F) (Q : PUnit → sProp 𝕄) :
    iprop(known m K ∗ owing c O ∗ bigSep Finset.univ (place m c 16))
      ⊢ iprop((owing c O ∗ bigSep Finset.univ (ending m c {12, 13, 14, 15}) -∗ runs c p Q) -∗ runs c (loaded 15 (store c 15 p)) Q) := by
  have e0 : place m c 16 15 = loading c 15 := by
    unfold place; rw [if_neg (by decide), if_pos (by decide)]
  have e1 : ending m c {12, 13, 14, 15} 15 = storing m c 15 := by unfold ending; rw [if_pos (by decide)]
  have upd := bigSep_univ_update (Φ := place m c 16) (Ψ := ending m c {12, 13, 14, 15}) (15 : Fin 16) (fun j hj => by
    have hm : j ∈ ({12, 13, 14, 15} : Finset (Fin 16)) ↔ 12 ≤ j.val := by revert j; decide
    have h15 : j.val ≠ 15 := fun h => hj (Fin.ext h)
    have := j.isLt
    unfold ending place
    rw [if_congr hm rfl rfl]
    split_ifs <;> first | rfl | omega)
  rw [e0, e1] at upd
  iintro ⟨#HK, HO, HP⟩ Hk
  ihave H := upd $$ HP
  icases H with ⟨HB, Hback⟩
  iapply (load_to_store m K c 15 hO) $$ [HO HB]
  · isplitr; · iexact HK
    isplitl [HO] <;> iassumption
  iintro ⟨HO, HC⟩
  iapply Hk
  isplitl [HO]; · iexact HO
  iapply Hback
  iexact HC

theorem end_wait (c : Dev nD) (i : Fin 16) (s s' : Finset (Fin 16)) (hs : s = insert i s') (hi : i ∉ s')
    {O : CellTallies nD τ sig Unit} (hO : Above 0 O) (p : Body F) (Q : PUnit → sProp 𝕄) :
    iprop(known m K ∗ owing c O ∗ bigSep Finset.univ (ending m c s))
      ⊢ iprop((owing c O ∗ bigSep Finset.univ (ending m c s') ∗ idle (F := F) c (slotOf i) (i.val / 4 + 1) -∗ runs c p Q)
          -∗ runs c (stored c i p) Q) := by
  subst hs
  have e0 : ending m c (insert i s') i = storing m c i := by unfold ending; rw [if_pos (Finset.mem_insert_self _ _)]
  have e1 : ending m c s' i = finished m c i := by unfold ending; rw [if_neg hi]
  have upd := bigSep_univ_update (Φ := ending m c (insert i s')) (Ψ := ending m c s') i (fun j hj => by
    have hm : j ∈ insert i s' ↔ j ∈ s' := by rw [Finset.mem_insert, or_iff_right hj]
    unfold ending; rw [if_congr hm rfl rfl])
  rw [e0, e1] at upd
  iintro ⟨#HK, HO, HP⟩ Hk
  ihave H := upd $$ HP
  icases H with ⟨HC, Hback⟩
  iapply (end_store m K c i hO) $$ [HO HC]
  · isplitr; · iexact HK
    isplitl [HO] <;> iassumption
  iintro ⟨HO, HD, Hidle⟩
  iapply Hk
  isplitl [HO]; · iexact HO
  isplitl [HD Hback]; · iapply Hback; iexact HD
  iexact Hidle

theorem wp_stageEnd (c : Dev nD) {O : CellTallies nD τ sig Unit} (hO : Above 0 O) (p : Body F) (Q : PUnit → sProp 𝕄) :
    iprop(known m K ∗ owing c O ∗ stages m c 38)
      ⊢ iprop((owing c O ∗ bigSep Finset.univ (finished m c) ∗ bigSep Finset.univ (fun s => idle (F := F) c s 4) -∗ runs c p Q)
          -∗ runs c (stageEnd c p) Q) := by
  have ef : ending m c ∅ = finished m c := funext fun j => by unfold ending; rw [if_neg (Finset.notMem_empty j)]
  have e4 : bigSep Finset.univ (fun s => idle (F := F) c s 4)
      = iprop(idle c 0 4 ∗ idle c 1 4 ∗ idle c 2 4 ∗ idle c 3 4) := by
    rw [bigSep_univ_eq_bigSepL [0, 1, 2, 3] (by decide) (by decide)]
    rfl
  have w12 := end_wait m K c 12 {12, 13, 14, 15} {13, 14, 15} (by decide) (by decide) hO
  have w13 := end_wait m K c 13 {13, 14, 15} {14, 15} (by decide) (by decide) hO
  have w14 := end_wait m K c 14 {14, 15} {15} (by decide) (by decide) hO
  have w15 := end_wait m K c 15 {15} ∅ (by decide) (by decide) hO
  unfold stages stageEnd
  rw [e4, ← ef, show min 38 16 = 16 from rfl]
  iintro ⟨#HK, HO, HP, -⟩ Hk
  iapply (end_turn m K c hO) $$ [HO HP]
  · isplitr; · iexact HK
    isplitl [HO] <;> iassumption
  iintro ⟨HO, HP⟩
  iapply (w12 _ Q) $$ [HO HP]
  · isplitr; · iexact HK
    isplitl [HO] <;> iassumption
  iintro ⟨HO, HP, H0⟩
  iapply (w13 _ Q) $$ [HO HP]
  · isplitr; · iexact HK
    isplitl [HO] <;> iassumption
  iintro ⟨HO, HP, H1⟩
  iapply (w14 _ Q) $$ [HO HP]
  · isplitr; · iexact HK
    isplitl [HO] <;> iassumption
  iintro ⟨HO, HP, H2⟩
  iapply (w15 _ Q) $$ [HO HP]
  · isplitr; · iexact HK
    isplitl [HO] <;> iassumption
  iintro ⟨HO, HP, H3⟩
  iapply Hk
  isplitl [HO]; · iexact HO
  isplitl [HP]; · iexact HP
  isplitl [H0]; · iexact H0
  isplitl [H1]; · iexact H1
  isplitl [H2]; · iexact H2
  iexact H3

end Cert.AllGather

end
-- ==== Proof.Share.lean ====
/- A device's arrays divided into the pieces its copies move, and put together again. -/
module

public import proofs.«01_k».proof.Proof.Stages

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## By role -/

theorem bigSep_role (Φ : Role → sProp 𝕄) :
    bigSep Finset.univ Φ = iprop(Φ .bar ∗ (bigSep Finset.univ (fun s => Φ (.ld s)) ∗ bigSep Finset.univ (fun s => Φ (.st s)))
      ∗ (bigSep Finset.univ (fun k => Φ (.xs k)) ∗ bigSep Finset.univ (fun k => Φ (.xr k)))
      ∗ bigSep Finset.univ (fun k => Φ (.ys k)) ∗ bigSep Finset.univ (fun k => Φ (.yr k))) := by
  rw [bigSep_univ_equiv Role.sum.symm Φ, bigSep_univ_sum, bigSep_univ_sum, bigSep_univ_sum, bigSep_univ_sum, bigSep_univ_sum, bigSep_univ_sum,
    show (Finset.univ : Finset Unit) = {()} from rfl, BI.bigSep_singleton]
  rfl

/-! ## The result -/

/-- The whole result at a device. -/
def outWhole (c : Dev nD) (f : Buf (Elt F) ((c : Thread nD τ).loc main_v1)) : sProp 𝕄 := ((c : Thread nD τ).loc main_v1) ↦{fullShare} f

theorem out_pieces (c : Dev nD) (f : Buf (Elt F) ((c : Thread nD τ).loc main_v1)) :
    outWhole (F := F) c f = iprop(bigSep Finset.univ (fun k => outAt (F := F) c (setY c k) f)
      ∗ bigSep Finset.univ (fun k => outAt (F := F) c (setY (devY c) k) f) ∗ bigSep Finset.univ (fun j => outAt (F := F) c (setS c j) f)) := by
  show (((c : Thread nD τ).loc main_v1) ↦[Finset.univ]{fullShare} f : sProp 𝕄) = _
  rw [← piece_cover c, pointsTo_biUnion _ _ (fun p _ p' _ h => piece_disjoint c p p' h), bigSep_univ_sum, bigSep_univ_sum]
  rfl

/-- The rows the neighbour over `x` is to write, -/
theorem roomX_give (c : Dev nD) (f : Buf (Elt F) ((c : Thread nD τ).loc main_v1)) :
    (bigSep Finset.univ fun k => outAt (F := F) c (setY c k) f) ⊢ pay m (devX c) .bar 0 false := by
  show _ ⊢ bigSep Finset.univ (roomX (F := F) (devX c))
  refine bigSep_mono fun k _ => ?_
  unfold roomX
  rw [devX_devX, setX_devX]
  exact exists_intro (Φ := fun f => outAt (F := F) c (setY c k) f) f
/-- and the neighbour over `y`. -/
theorem roomY_give (c : Dev nD) (f : Buf (Elt F) ((c : Thread nD τ).loc main_v1)) :
    (bigSep Finset.univ fun k => outAt (F := F) c (setY (devY c) k) f) ⊢ pay m (devY c) .bar 0 true := by
  show _ ⊢ bigSep Finset.univ (roomY (F := F) (devY c))
  refine bigSep_mono fun k _ => ?_
  unfold roomY
  rw [devY_devY]
  exact exists_intro (Φ := fun f => outAt (F := F) c (setY (devY c) k) f) f

/-! ## The argument -/

/-- The whole argument at a device. -/
def argWhole (c : Dev nD) : sProp 𝕄 := ((c : Thread nD τ).loc main_arg0) ↦{fullShare} arg m c

theorem arg_left (c : Dev nD) : argAt m c Finset.univ fullShare.left
    = iprop(bigSep Finset.univ (fun k => argAt m c (setA c k) fullShare.left) ∗ bigSep Finset.univ (fun k => argAt m c (setA (devY c) k) fullShare.left)) := by
  unfold argAt
  rw [← argPiece_cover c, pointsTo_biUnion _ _ (fun p _ p' _ h => argPiece_disjoint c p p' h), bigSep_univ_sum]
  rfl
theorem arg_right (c : Dev nD) : argAt m c Finset.univ fullShare.right = bigSep Finset.univ (fun j => argAt m c (setL j) fullShare.right) := by
  unfold argAt
  rw [← argL_cover, pointsTo_biUnion _ _ (fun p _ p' _ h => argL_disjoint p p' h)]

theorem arg_split (c : Dev nD) : argWhole m c ⊢ iprop(argAt m c Finset.univ fullShare.left ∗ argAt m c Finset.univ fullShare.right) := by
  unfold argWhole argAt
  exact (pointsTo_share (PosShare.mem_left_op_right fullShare)).1
theorem arg_join (c : Dev nD) : iprop(argAt m c Finset.univ fullShare.left ∗ argAt m c Finset.univ fullShare.right) ⊢ argWhole m c := by
  unfold argWhole argAt
  exact (pointsTo_share (PosShare.mem_left_op_right fullShare)).2

/-! ## The staging buffer -/

/-- The whole staging buffer at a device, whatever it holds. -/
def scrWhole (c : Dev nD) : sProp 𝕄 :=
  iprop(∃ f : Buf (Elt F) ((c : Thread nD τ).loc cc0_scratch0), ((c : Thread nD τ).loc cc0_scratch0) ↦{fullShare} f)

theorem scr_split (c : Dev nD) : scrWhole (F := F) c ⊢ bigSep Finset.univ fun s : Fin 4 => iprop(∃ f, slotAt (F := F) c s f) := by
  unfold scrWhole
  iintro ⟨%f, H⟩
  have e : (((c : Thread nD τ).loc cc0_scratch0) ↦[Finset.univ]{fullShare} f : sProp 𝕄) = bigSep Finset.univ fun s : Fin 4 => slotAt (F := F) c s f := by
    rw [← slot_cover, pointsTo_biUnion _ _ (fun p _ p' _ h => slot_disjoint p p' h)]
    rfl
  ihave H := (Entails.of_eq e) $$ H
  iapply (show (bigSep Finset.univ fun s : Fin 4 => slotAt (F := F) c s f) ⊢ bigSep Finset.univ fun s : Fin 4 => iprop(∃ f, slotAt (F := F) c s f) from
    bigSep_mono fun s _ => exists_intro (Φ := fun f => slotAt (F := F) c s f) f)
  iexact H

theorem scr_join (c : Dev nD) : (bigSep Finset.univ fun s : Fin 4 => iprop(∃ f, slotAt (F := F) c s f)) ⊢ scrWhole (F := F) c := by
  iintro H
  ihave H := (BI.bigSep_exists_pi Finset.univ (fun (s : Fin 4) f => slotAt (F := F) c s f)) $$ H
  icases H with ⟨%fs, H⟩
  ihave H := (show (bigSep Finset.univ fun s : Fin 4 => slotAt (F := F) c s (fs s)) ⊢ _ from
    pointsTo_biUnion_join (ℓ := (c : Thread nD τ).loc cc0_scratch0) (q := fullShare) Finset.univ (fun s : Fin 4 => (slot s).view.set) fs (fs 0)
      (fun p _ p' _ h => slot_disjoint p p' h)) $$ H
  icases H with ⟨%g, -, H⟩
  rw [slot_cover]
  unfold scrWhole
  iexists g
  iexact H

end Cert.AllGather

end
-- ==== Proof.Body.lean ====
/- A device's whole body, from what the launch deals it to the gathered result and every semaphore at zero. -/
module

public import proofs.«01_k».proof.Proof.Share

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Role → ℕ)

/-! ## What the launch deals -/

/-- The credit others owe device `c`. -/
def credits (c : Dev nD) : sProp 𝕄 :=
  iprop(cred (tallyAt (cell c .bar) () 2) ∗ bigSep Finset.univ (fun k => cred (tallyAt (cell c (.xr k)) () (credit (.xr k))))
    ∗ bigSep Finset.univ (fun k => cred (tallyAt (cell c (.yr k)) () (credit (.yr k)))))
/-- Device `c` before its first wait at each of its semaphores, -/
def before (c : Dev nD) : sProp 𝕄 := bigSep Finset.univ fun ρ => atPos ER (cell c ρ) 0 ∅ 0
/-- and after its last. -/
def after (c : Dev nD) : sProp 𝕄 := bigSep Finset.univ fun ρ => atPos ER (cell c ρ) (turns ρ) ∅ 0
/-- Device `c`'s semaphores at zero. -/
def zeros (c : Dev nD) : sProp 𝕄 := bigSep Finset.univ fun ρ => semVal (cell c ρ) 0

/-- What device `c` is to pay: the two signals, -/
def dueBar (c : Dev nD) : sProp 𝕄 :=
  iprop(dutyTok ER (cell (devX c) .bar) 0 false ∗ dutyTok ER (cell (devY c) .bar) 0 true)
/-- the stages' landings, -/
def dueStages (c : Dev nD) : sProp 𝕄 :=
  iprop(bigSep Finset.univ (fun j : Fin 16 => dutyTok ER (cell c (.ld (slotOf j))) (j.val / 4) false)
    ∗ bigSep Finset.univ (fun j : Fin 16 => dutyTok ER (cell c (.st (slotOf j))) (j.val / 4) false))
/-- the sends over `x` -/
def dueX (c : Dev nD) : sProp 𝕄 :=
  iprop(bigSep Finset.univ (fun k => dutyTok ER (cell c (.xs k)) 0 false)
    ∗ bigSep Finset.univ (fun k => dutyTok ER (cell (devX c) (.xr k)) 0 false))
/-- and over `y`. -/
def dueY (c : Dev nD) : sProp 𝕄 :=
  iprop(bigSep Finset.univ (fun k => dutyTok ER (cell c (.ys k)) 0 false)
    ∗ bigSep Finset.univ (fun k => dutyTok ER (cell (devY c) (.yr k)) 0 false))
def due (c : Dev nD) : sProp 𝕄 := iprop(dueBar (F := F) c ∗ dueStages (F := F) c ∗ dueX (F := F) c ∗ dueY (F := F) c)

/-! ## Dealing it to the loops -/

theorem deal_sendX (c : Dev nD) :
    iprop(bigSep Finset.univ (fun k => argAt m c (setA c k) fullShare.left) ∗ bigSep Finset.univ (roomX (F := F) c) ∗ dueX (F := F) c)
      ⊢ bigSep Finset.univ (toSendX m c) := by
  unfold dueX toSendX
  simp only [bigSep_sep']
  exact BI.Entails.refl _

theorem deal_pass (c : Dev nD) :
    iprop((bigSep Finset.univ (fun k => cred (tallyAt (cell c (.xr k)) () (credit (.xr k))))
          ∗ bigSep Finset.univ (fun k => atPos ER (cell c (.xr k)) 0 ∅ 0)) ∗ bigSep Finset.univ (roomY (F := F) c) ∗ dueY (F := F) c)
      ⊢ bigSep Finset.univ (toPass (F := F) c) := by
  unfold dueY toPass
  simp only [bigSep_sep']
  exact BI.Entails.refl _

theorem deal_stages (c : Dev nD) (f : Buf (Elt F) ((c : Thread nD τ).loc main_v1)) :
    iprop(known m K ∗ (argAt m c Finset.univ fullShare.right ∗ dueStages (F := F) c ∗ bigSep Finset.univ (fun j => outAt (F := F) c (setS c j) f))
        ∗ scrWhole (F := F) c ∗ bigSep Finset.univ (fun s => atPos ER (cell c (.ld s)) 0 ∅ 0) ∗ bigSep Finset.univ (fun s => atPos ER (cell c (.st s)) 0 ∅ 0))
      ⊢ stages m c 0 := by
  have ep : place m c 0 = waiting m c := funext fun j => by unfold place; rw [if_pos (Nat.zero_le _)]
  have eu : unused (F := F) c 0 = fun s => idle c s 0 := funext fun s => by unfold unused; rw [if_pos (Nat.zero_le _)]
  unfold stages dueStages
  rw [show min 0 16 = 0 from rfl, ep, eu, arg_right]
  unfold waiting idle
  simp only [bigSep_sep']
  iintro ⟨#HK, ⟨Hx, ⟨Htl, Hts⟩, Ho⟩, Hscr, Hal, Has⟩
  isplitl [Hx Htl Hts Ho]
  · isplitl [Hx Htl]
    · isplitl [Hx] <;> iassumption
    isplitl [Hts]; · iexact Hts
    iapply (show (bigSep Finset.univ fun j : Fin 16 => outAt (F := F) c (setS c j) f)
        ⊢ bigSep Finset.univ fun j : Fin 16 => iprop(∃ f, outAt (F := F) c (setS c j) f) from
      bigSep_mono fun j _ => exists_intro (Φ := fun f => outAt (F := F) c (setS c j) f) f)
    iexact Ho
  isplitl [Hscr]; · iapply (scr_split (F := F) c); iexact Hscr
  isplitl [Hal]
  · isplitl [Hal]; · iexact Hal
    iapply ((BI.bigSep_of_persistent Finset.univ (known m K)).trans
      (bigSep_mono fun s _ => known_reached m K c (.ld s)))
    iexact HK
  isplitl [Has]; · iexact Has
  iapply ((BI.bigSep_of_persistent Finset.univ (known m K)).trans
    (bigSep_mono fun s _ => known_reached m K c (.st s)))
  iexact HK

theorem deal_recvY (c : Dev nD) :
    iprop(bigSep Finset.univ (fun k => cred (tallyAt (cell c (.yr k)) () (credit (.yr k))))
          ∗ bigSep Finset.univ (fun k => atPos ER (cell c (.yr k)) 0 ∅ 0))
      ⊢ bigSep Finset.univ (toRecvY (F := F) c) := by
  unfold toRecvY
  simp only [bigSep_sep']
  exact BI.Entails.refl _

theorem deal_leave (c : Dev nD) :
    iprop((bigSep Finset.univ (fun k => cred (tallyAt (cell c (.xs k)) () (credit (.xs k)))) ∗ bigSep Finset.univ (fun k => atPos ER (cell c (.xs k)) 0 ∅ 0))
        ∗ (bigSep Finset.univ (fun k => cred (tallyAt (cell c (.ys k)) () (credit (.ys k)))) ∗ bigSep Finset.univ (fun k => atPos ER (cell c (.ys k)) 0 ∅ 0)))
      ⊢ bigSep Finset.univ (toLeave (F := F) c) := by
  unfold toLeave
  simp only [bigSep_sep']
  exact BI.Entails.refl _

/-! ## The loops -/

/-- The main loop: what comes over `x` is sent on over `y`, and the device's own half is staged. -/
theorem wp_main_step (c : Dev nD) (k : Fin 38) (p : Body F) (Q : PUnit → sProp 𝕄) :
    iprop(known m K ∗ (owing c (owedY c k.val) ∗ stages m c k.val) ∗ toPass (F := F) c k)
      ⊢ iprop(((owing c (owedY c (k.val + 1)) ∗ stages m c (k.val + 1)) ∗ passed (F := F) c k -∗ runs c p Q)
          -∗ runs c (recvX c k (sendY c k (stage c k p))) Q) := by
  iintro ⟨#HK, ⟨HO, HS⟩, HP⟩ Hk
  iapply (wp_pass m K c k) $$ [HO HP]
  · isplitr; · iexact HK
    isplitl [HO] <;> iassumption
  iintro ⟨HO, HP⟩
  iapply (wp_stage m K c k (owedY_above c (k.val + 1) (by decide))) $$ [HO HS]
  · isplitr; · iexact HK
    isplitl [HO] <;> iassumption
  iintro ⟨HO, HS⟩
  iapply Hk
  isplitl [HO HS]
  · isplitl [HO] <;> iassumption
  iexact HP

/-- The semaphores closed. -/
theorem close_all (c : Dev nD) : iprop(known m K ∗ after (F := F) c) ⊢ |={Set.univ}=> zeros (F := F) c := by
  unfold after zeros
  refine BI.Entails.trans ?_ (bigSep_fupd _ _)
  exact bigSep_with_persistent (R := known m K) fun ρ _ => by
    iintro ⟨#HK, Ha⟩
    iapply (Rounds.cell_close ER (sched m) (Set.mem_univ (K (c, ρ))) (fun h => h) (R := turns ρ) (duties_over m c ρ))
    isplitr; · iapply (known_inv m K c ρ); iexact HK
    iexact Ha

/-- What comes out of a device's last loops, put together. -/
theorem gather_up (c : Dev nD) :
    iprop((bigSep Finset.univ (fun k => atPos ER (cell c (.xr k)) 1 ∅ 0) ∗ atPos ER (cell c .bar) 1 ∅ 0)
        ∗ (bigSep Finset.univ (finished m c) ∗ bigSep Finset.univ (fun s => idle (F := F) c s 4))
        ∗ bigSep Finset.univ (recvdY m c) ∗ bigSep Finset.univ (leftOver m c)
        ∗ bigSep Finset.univ (fun k => argAt m c (setA (devY c) k) fullShare.left))
      ⊢ iprop(after (F := F) c ∗ argWhole m c ∗ outWhole (F := F) c (gathered m c) ∗ scrWhole (F := F) c) := by
  have ea : after (F := F) c = iprop(atPos ER (cell c .bar) 1 ∅ 0
      ∗ (bigSep Finset.univ (fun s => atPos ER (cell c (.ld s)) 4 ∅ 0) ∗ bigSep Finset.univ (fun s => atPos ER (cell c (.st s)) 4 ∅ 0))
      ∗ (bigSep Finset.univ (fun k => atPos ER (cell c (.xs k)) 1 ∅ 0) ∗ bigSep Finset.univ (fun k => atPos ER (cell c (.xr k)) 1 ∅ 0))
      ∗ bigSep Finset.univ (fun k => atPos ER (cell c (.ys k)) 1 ∅ 0) ∗ bigSep Finset.univ (fun k => atPos ER (cell c (.yr k)) 1 ∅ 0)) :=
    (bigSep_role _).trans rfl
  unfold finished idle recvdY leftOver
  rw [ea, out_pieces]
  simp only [bigSep_sep']
  iintro ⟨⟨Hxr, Hb⟩, ⟨⟨Hr, Ho⟩, Hs, ⟨Hld, -⟩, Hst, -⟩, ⟨Hyr, Hoy⟩, ⟨⟨Hxs, Hl⟩, Hys, Hox⟩, Hl'⟩
  isplitl [Hxr Hb Hld Hst Hyr Hxs Hys]
  · isplitl [Hb]; · iexact Hb
    isplitl [Hld Hst]
    · isplitl [Hld] <;> iassumption
    isplitl [Hxs Hxr]
    · isplitl [Hxs] <;> iassumption
    isplitl [Hys] <;> iassumption
  isplitl [Hl Hl' Hr]
  · iapply (arg_join m c)
    rw [arg_left, arg_right]
    isplitl [Hl Hl']
    · isplitl [Hl] <;> iassumption
    iexact Hr
  isplitl [Hox Hoy Ho]
  · isplitl [Hox]; · iexact Hox
    isplitl [Hoy] <;> iassumption
  iapply (scr_join (F := F) c)
  iexact Hs

/-! ## The body -/

/-- What a device holds when its body ends. -/
def ended (c : Dev nD) : sProp 𝕄 :=
  iprop(owing c 0 ∗ zeros (F := F) c ∗ argWhole m c ∗ outWhole (F := F) c (gathered m c) ∗ scrWhole (F := F) c)

/-- From the barrier on. -/
theorem wp_afterBarrier (c : Dev nD) (f : Buf (Elt F) ((c : Thread nD τ).loc main_v1)) (Q : PUnit → sProp 𝕄) :
    iprop(known m K ∗ owing c (owedSends c)
        ∗ (bigSep Finset.univ (roomX (F := F) c) ∗ bigSep Finset.univ (roomY (F := F) c))
        ∗ (dueStages (F := F) c ∗ dueX (F := F) c ∗ dueY (F := F) c)
        ∗ (bigSep Finset.univ (fun k => cred (tallyAt (cell c (.xr k)) () (credit (.xr k))))
            ∗ bigSep Finset.univ (fun k => cred (tallyAt (cell c (.yr k)) () (credit (.yr k)))))
        ∗ (atPos ER (cell c .bar) 1 ∅ 0
            ∗ (bigSep Finset.univ (fun s => atPos ER (cell c (.ld s)) 0 ∅ 0) ∗ bigSep Finset.univ (fun s => atPos ER (cell c (.st s)) 0 ∅ 0))
            ∗ (bigSep Finset.univ (fun k => atPos ER (cell c (.xs k)) 0 ∅ 0) ∗ bigSep Finset.univ (fun k => atPos ER (cell c (.xr k)) 0 ∅ 0))
            ∗ bigSep Finset.univ (fun k => atPos ER (cell c (.ys k)) 0 ∅ 0) ∗ bigSep Finset.univ (fun k => atPos ER (cell c (.yr k)) 0 ∅ 0))
        ∗ argWhole m c ∗ bigSep Finset.univ (fun j => outAt (F := F) c (setS c j) f) ∗ scrWhole (F := F) c)
      ⊢ iprop((ended m c -∗ Q ⟨⟩) -∗ runs c (afterBarrier c) Q) := by
  unfold afterBarrier ended
  iintro ⟨#HK, HO, ⟨HrX, HrY⟩, ⟨HdS, HdX, HdY⟩, ⟨HcX, HcY⟩, ⟨Hb, ⟨Hld, Hst⟩, ⟨Hxs, Hxr⟩, Hys, Hyr⟩, Harg, Hout, Hscr⟩ Hk
  ihave H := (arg_split m c) $$ Harg
  icases H with ⟨Hl, Hr⟩
  ihave H := (Entails.of_eq (arg_left m c)) $$ Hl
  icases H with ⟨Hl, Hl'⟩
  -- the sends over `x`
  ihave HS := (deal_sendX m c) $$ [Hl HrX HdX]
  · isplitl [Hl]; · iexact Hl
    isplitl [HrX] <;> iassumption
  iapply (wp_over (known m K) c (sendX c) (fun k => owing c (owedX c k + owedY c 0)) (toSendX m c)
    (fun k => cred (tallyAt (cell c (.xs k)) () (credit (.xs k)))) (wp_sendX_step m K c)) $$ [HO HS]
  · isplitr; · iexact HK
    isplitl [HO]; · iexact HO
    iexact HS
  iintro ⟨HO, Hcxs⟩
  rw [show owedX c 38 + owedY c 0 = owedY c 0 by rw [owedX_end, zero_add]]
  -- the main loop
  ihave HP := (deal_pass (F := F) c) $$ [HcX Hxr HrY HdY]
  · isplitl [HcX Hxr]
    · isplitl [HcX] <;> iassumption
    isplitl [HrY] <;> iassumption
  ihave HS := (deal_stages m K c f) $$ [Hr HdS Hout Hscr Hld Hst]
  · isplitr; · iexact HK
    isplitl [Hr HdS Hout]
    · isplitl [Hr]; · iexact Hr
      isplitl [HdS] <;> iassumption
    isplitl [Hscr]; · iexact Hscr
    isplitl [Hld] <;> iassumption
  iapply (wp_over (known m K) c (fun k p => recvX c k (sendY c k (stage c k p))) (fun k => iprop(owing c (owedY c k) ∗ stages m c k))
    (toPass (F := F) c) (passed (F := F) c) (wp_main_step m K c)) $$ [HO HS HP]
  · isplitr; · iexact HK
    isplitl [HO HS]
    · isplitl [HO] <;> iassumption
    iexact HP
  iintro ⟨⟨HO, HS⟩, HP⟩
  rw [owedY_end]
  ihave H := (Entails.of_eq (show bigSep Finset.univ (passed (F := F) c)
      = iprop(bigSep Finset.univ (fun k => atPos ER (cell c (.xr k)) 1 ∅ 0)
          ∗ bigSep Finset.univ (fun k => cred (tallyAt (cell c (.ys k)) () (credit (.ys k))))) by
    unfold passed; exact bigSep_sep' _ _ _)) $$ HP
  icases H with ⟨Hxr, Hcys⟩
  -- the last stages
  iapply (wp_stageEnd m K c (Above.zero _)) $$ [HO HS]
  · isplitr; · iexact HK
    isplitl [HO] <;> iassumption
  iintro ⟨HO, HD, Hidle⟩
  -- what comes over `y`
  ihave HP := (deal_recvY (F := F) c) $$ [HcY Hyr]
  · isplitl [HcY] <;> iassumption
  iapply (wp_over (known m K) c (recvY c) (fun _ => owing c 0) (toRecvY (F := F) c) (recvdY m c) (wp_recvY_step m K c)) $$ [HO HP]
  · isplitr; · iexact HK
    isplitl [HO] <;> iassumption
  iintro ⟨HO, HY⟩
  -- the sends' own waits
  ihave HP := (deal_leave (F := F) c) $$ [Hcxs Hxs Hcys Hys]
  · isplitl [Hcxs Hxs]
    · isplitl [Hcxs] <;> iassumption
    isplitl [Hcys] <;> iassumption
  iapply (wp_over (known m K) c (fun k p => leftX c k (leftY c k p)) (fun _ => owing c 0) (toLeave (F := F) c) (leftOver m c)
    (wp_leave_step m K c)) $$ [HO HP]
  · isplitr; · iexact HK
    isplitl [HO] <;> iassumption
  iintro ⟨HO, HL⟩
  ihave H := (gather_up m c) $$ [Hxr Hb HD Hidle HY HL Hl']
  · isplitl [Hxr Hb]
    · isplitl [Hxr] <;> iassumption
    isplitl [HD Hidle]
    · isplitl [HD] <;> iassumption
    isplitl [HY]; · iexact HY
    isplitl [HL] <;> iassumption
  icases H with ⟨Ha, Harg, Hout, Hscr⟩
  unfold runs
  imod (close_all m K c) $$ [Ha] with Hz
  · isplitr; · iexact HK
    iexact Ha
  rw [wp_ret]
  imodintro
  iapply Hk
  isplitl [HO]; · iexact HO
  isplitl [Hz]; · iexact Hz
  isplitl [Harg]; · iexact Harg
  isplitl [Hout] <;> iassumption

/-- The whole body. -/
theorem wp_loops (c : Dev nD) (f : Buf (Elt F) ((c : Thread nD τ).loc main_v1)) (Q : PUnit → sProp 𝕄) :
    iprop(known m K ∗ owing c (owed0 c) ∗ credits (F := F) c ∗ before (F := F) c ∗ due (F := F) c
        ∗ argWhole m c ∗ outWhole (F := F) c f ∗ scrWhole (F := F) c)
      ⊢ iprop((ended m c -∗ Q ⟨⟩) -∗ runs c loops Q) := by
  have e : ∀ p : Dev nD → Body F, runs c (.op .deviceId fun d => p d) Q = runs c (p c) Q := fun p => by unfold runs; rw [wp_deviceId]
  unfold credits before due dueBar loops
  rw [bigSep_role, e]
  iintro ⟨#HK, HO, ⟨Hcb, HcX, HcY⟩, ⟨Hb, Hpos⟩, ⟨⟨HtX, HtY⟩, Hdue⟩, Harg, Hout, Hscr⟩ Hk
  ihave H := (Entails.of_eq (out_pieces (F := F) c f)) $$ Hout
  icases H with ⟨HoX, HoY, Hout⟩
  ihave HoX := (roomX_give m c f) $$ HoX
  ihave HoY := (roomY_give m c f) $$ HoY
  iapply (wp_signal m K c (devX c) false (O₀ := owed0 c) (O := owed1 c) rfl) $$ [HO HtX HoX]
  · isplitr; · iexact HK
    isplitl [HO]; · iexact HO
    isplitl [HtX] <;> iassumption
  iintro HO
  iapply (wp_signal m K c (devY c) true (O₀ := owed1 c) (O := owedSends c) rfl) $$ [HO HtY HoY]
  · isplitr; · iexact HK
    isplitl [HO]; · iexact HO
    isplitl [HtY] <;> iassumption
  iintro HO
  iapply (wp_barrier m K c) $$ [Hcb HO Hb]
  · isplitr; · iexact HK
    isplitl [Hcb]; · iexact Hcb
    isplitl [HO] <;> iassumption
  iintro ⟨HO, Hb, HrX, HrY⟩
  iapply (wp_afterBarrier m K c f Q) $$ [HO HrX HrY Hdue HcX HcY Hb Hpos Harg Hout Hscr]
  · isplitr; · iexact HK
    isplitl [HO]; · iexact HO
    isplitl [HrX HrY]
    · isplitl [HrX] <;> iassumption
    isplitl [Hdue]; · iexact Hdue
    isplitl [HcX HcY]
    · isplitl [HcX] <;> iassumption
    isplitl [Hb Hpos]
    · isplitl [Hb] <;> iassumption
    isplitl [Harg]; · iexact Harg
    isplitl [Hout] <;> iassumption
  iexact Hk

end Cert.AllGather

end
-- ==== Proof.Deal.lean ====
/- What the launch mints and deals: every device's semaphores under the schedule, the tokens of the landings each device pays,
   and the credit it is owed. -/
module

public import proofs.«01_k».proof.Proof.Body
public import Idealize.ShloMosaic.Lib.Pipeline.Launch
public import Idealize.ShloMosaic.Lib.Pipeline.Kit
public import Idealize.ShloMosaic.Lib.Quiescent

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

def cells : Finset (GSem nD τ sig) := Finset.univ.map ⟨fun p : Dev nD × Role => cell p.1 p.2, cell_injective⟩

/-- The landings at one device: two signals, the sixteen stages' loads and stores, and the chunks' four each. -/
abbrev Landing := Bool ⊕ (Fin 16 ⊕ Fin 16) ⊕ (Fin 38 ⊕ Fin 38) ⊕ Fin 38 ⊕ Fin 38

def roleAt : Landing → Role
  | .inl _ => .bar
  | .inr (.inl (.inl j)) => .ld (slotOf j)
  | .inr (.inl (.inr j)) => .st (slotOf j)
  | .inr (.inr (.inl (.inl k))) => .xs k
  | .inr (.inr (.inl (.inr k))) => .xr k
  | .inr (.inr (.inr (.inl k))) => .ys k
  | .inr (.inr (.inr (.inr k))) => .yr k
def roundAt : Landing → ℕ
  | .inr (.inl (.inl j)) => j.val / 4
  | .inr (.inl (.inr j)) => j.val / 4
  | _ => 0
def payerAt : Landing → Bool
  | .inl d => d
  | _ => false

theorem stage_eq {j j' : Fin 16} (h : slotOf j = slotOf j') (h' : j.val / 4 = j'.val / 4) : j = j' :=
  Fin.ext (by have : j.val % 4 = j'.val % 4 := congrArg Fin.val h; omega)

theorem landing_eq {l l' : Landing} (h : roleAt l = roleAt l') (h' : roundAt l = roundAt l') (h'' : payerAt l = payerAt l') : l = l' := by
  rcases l with d | (j | j) | (k | k) | k | k <;> rcases l' with d' | (j' | j') | (k' | k') | k' | k' <;>
    simp only [roleAt, Role.ld.injEq, Role.st.injEq, Role.xs.injEq, Role.xr.injEq, Role.ys.injEq, Role.yr.injEq, reduceCtorEq] at h
  · exact congrArg Sum.inl h''
  · rw [stage_eq h h']
  · rw [stage_eq h h']
  all_goals rw [h]

def tokenAt (p : Dev nD × Landing) : GSem nD τ sig × ℕ × Bool := (cell p.1 (roleAt p.2), roundAt p.2, payerAt p.2)

theorem tokenAt_injective : Function.Injective tokenAt := by
  rintro ⟨c, l⟩ ⟨c', l'⟩ h
  have h1 := cell_eq_iff.mp (congrArg Prod.fst h)
  have h2 := congrArg (fun x : GSem nD τ sig × ℕ × Bool => x.2.1) h
  have h3 := congrArg (fun x : GSem nD τ sig × ℕ × Bool => x.2.2) h
  rw [Prod.mk.injEq]
  exact ⟨h1.1, landing_eq h1.2 h2 h3⟩

def tokens : Finset (GSem nD τ sig × ℕ × Bool) := Finset.univ.map ⟨tokenAt, tokenAt_injective⟩

def u₀ : UU :=
  (initOf (Pipeline.cells cfgs cellOf_inj) (Pipeline.launchToks cfgs cellOf_inj), initOf cells tokens)

/-- The tokens of the landings at device `c`. -/
def minted (c : Dev nD) : sProp 𝕄 :=
  iprop((dutyTok ER (cell c .bar) 0 false ∗ dutyTok ER (cell c .bar) 0 true) ∗ dueStages (F := F) c
    ∗ (bigSep Finset.univ (fun k => dutyTok ER (cell c (.xs k)) 0 false) ∗ bigSep Finset.univ (fun k => dutyTok ER (cell c (.xr k)) 0 false))
    ∗ bigSep Finset.univ (fun k => dutyTok ER (cell c (.ys k)) 0 false) ∗ bigSep Finset.univ (fun k => dutyTok ER (cell c (.yr k)) 0 false))

theorem tokens_eq : bigSep tokens (fun x => (dutyTok ER x.1 x.2.1 x.2.2 : sProp 𝕄)) = bigSep Finset.univ (minted (F := F)) := by
  unfold tokens
  rw [bigSep_map, bigSep_univ_prod]
  refine bigSep_congr fun c _ => ?_
  rw [bigSep_univ_sum, bigSep_univ_sum, bigSep_univ_sum, bigSep_univ_sum, bigSep_univ_sum, bigSep_univ_sum,
    bigSep_univ_eq_bigSepL [false, true] (by decide) (by decide)]
  rfl

theorem cells_eq (Φ : GSem nD τ sig → sProp 𝕄) :
    bigSep cells Φ = bigSep Finset.univ fun c : Dev nD => bigSep Finset.univ fun ρ : Role => Φ (cell c ρ) := by
  unfold cells; rw [bigSep_map, bigSep_univ_prod]; rfl

/-- What the launch's element deals device `c`. -/
def G (c : Dev nD) : sProp 𝕄 :=
  iprop((bigSep Finset.univ fun ρ : Role => roundState ER (sched m) (cell c ρ) 0)
    ∗ (before (F := F) c ∗ bigSep Finset.univ fun ρ : Role => reached ER (cell c ρ) 0) ∗ minted (F := F) c)

theorem fund_cells : BI.own (ER (initOf cells tokens)) ⊢ (|==> bigSep Finset.univ (G m) : sProp 𝕄) := by
  iintro HX
  imod (Rounds.fund ER (sched m) cells tokens) $$ HX with ⟨Hst, Hr, Hat, Htok⟩
  imodintro
  ihave Hst := (Entails.of_eq (cells_eq fun g => roundState ER (sched m) g 0)) $$ Hst
  ihave Hat := (Entails.of_eq (cells_eq fun g => atPos ER g 0 ∅ 0)) $$ Hat
  ihave Hr := (Entails.of_eq (cells_eq fun g => reached ER g 0)) $$ Hr
  ihave Htok := (Entails.of_eq (tokens_eq (F := F))) $$ Htok
  unfold G before
  simp only [bigSep_sep']
  isplitl [Hst]; · iexact Hst
  isplitl [Hat Hr]
  · isplitl [Hat] <;> iassumption
  iexact Htok

/-! ## The tokens dealt around -/

theorem deal_tokens : bigSep Finset.univ (minted (F := F)) ⊢ bigSep Finset.univ (due (F := F)) := by
  unfold minted due dueBar dueX dueY
  simp only [bigSep_sep']
  rw [bigSep_univ_equiv permX (fun c : Dev nD => (dutyTok ER (cell c .bar) 0 false : sProp 𝕄)),
    bigSep_univ_equiv permY (fun c : Dev nD => (dutyTok ER (cell c .bar) 0 true : sProp 𝕄)),
    bigSep_univ_equiv permX (fun c : Dev nD => (bigSep Finset.univ (fun k => dutyTok ER (cell c (.xr k)) 0 false) : sProp 𝕄)),
    bigSep_univ_equiv permY (fun c : Dev nD => (bigSep Finset.univ (fun k => dutyTok ER (cell c (.yr k)) 0 false) : sProp 𝕄))]
  exact BI.Entails.refl _

/-! ## The semaphores -/

/-- The kernel's own semaphores: those of its copies. -/
def osem (i : DmaSem sig) : SemLoc sig := .dma i

theorem unscoped_eq : (Finset.univ.filter fun sm : SemLoc sig => ¬ sm.isScoped .tc = true) = {SemLoc.reg barSem} := by decide

theorem zeros_eq (c : Dev nD) :
    iprop(Pipeline.ownSems0 (Ix := Unit) (Name := ℕ) (U := UU) (Lvl := ℕ) (Val := Elt F) (τ := τ) osem c ∗ unscopedSems0 c)
      = (zeros (F := F) c : sProp 𝕄) := by
  have eu : (unscopedSems0 c : sProp 𝕄) = bigSep Finset.univ fun s : Sem sig => semVal ((c : Thread nD τ), SemLoc.reg s) 0 := by
    unfold unscopedSems0
    rw [unscoped_eq, BI.bigSep_singleton, show (Finset.univ : Finset (Sem sig)) = {barSem} by decide, BI.bigSep_singleton]
  have ez : (zeros (F := F) c : sProp 𝕄) = bigSep Finset.univ fun sm : SemLoc sig => semVal ((c : Thread nD τ), sm) 0 := by
    unfold zeros
    exact (bigSep_univ_equiv roleSem fun sm : SemLoc sig => (semVal ((c : Thread nD τ), sm) 0 : sProp 𝕄)).symm
  rw [ez, bigSep_univ_equiv (SemLoc.equivSum sig).symm (fun sm : SemLoc sig => (semVal ((c : Thread nD τ), sm) 0 : sProp 𝕄)), bigSep_univ_sum, eu]
  unfold Pipeline.ownSems0
  exact BI.sep_comm.antisymm BI.sep_comm

/-! ## The invariants -/

/-- What the deal makes of it. -/
def G' (c : Dev nD) : sProp 𝕄 :=
  iprop(∃ K : Dev nD × Role → ℕ, ((bigSep Finset.univ fun p : Dev nD × Role => cellInv ER (sched m) (K p) (cell p.1 p.2))
    ∗ (bigSep Finset.univ fun p : Dev nD × Role => reached ER (cell p.1 p.2) 0)) ∗ before (F := F) c ∗ due (F := F) c)

theorem alloc_device (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun ρ : Role => iprop(∃ κ : ℕ, cellInv ER (sched m) κ (cell c ρ)))
          ∗ (before (F := F) c ∗ bigSep Finset.univ fun ρ : Role => reached ER (cell c ρ) 0) ∗ minted (F := F) c) := by
  unfold G
  iintro ⟨Hos, Hus, Hst, Hat, Htok⟩
  ihave Hv := (Entails.of_eq (zeros_eq (F := F) c)) $$ [Hos Hus]
  · isplitl [Hos] <;> iassumption
  imod (show iprop(zeros (F := F) c ∗ bigSep Finset.univ fun ρ : Role => roundState ER (sched m) (cell c ρ) 0)
      ⊢ (|={Set.univ}=> bigSep Finset.univ fun ρ : Role => iprop(∃ κ : ℕ, cellInv ER (sched m) κ (cell c ρ)) : sProp 𝕄) from by
        unfold zeros
        rw [← bigSep_sep']
        exact (bigSep_mono fun ρ _ => (Rounds.body_intro ER (sched m) (cell c ρ)).trans inv_alloc).trans (bigSep_fupd _ _)) $$ [Hv Hst] with Hinv
  · isplitl [Hv] <;> iassumption
  imodintro
  isplitl [Hinv]; · iexact Hinv
  isplitl [Hat] <;> iassumption

theorem share_invariants :
    (bigSep Finset.univ fun c : Dev nD => iprop((bigSep Finset.univ fun ρ : Role => iprop(∃ κ : ℕ, cellInv ER (sched m) κ (cell c ρ)))
          ∗ (before (F := F) c ∗ bigSep Finset.univ fun ρ : Role => reached ER (cell c ρ) 0) ∗ minted (F := F) c) : sProp 𝕄)
      ⊢ bigSep Finset.univ (G' m) := by
  have eI := bigSep_univ_prod (fun p : Dev nD × Role => (iprop(∃ κ : ℕ, cellInv ER (sched m) κ (cell p.1 p.2)) : sProp 𝕄))
  have eR := bigSep_univ_prod (fun p : Dev nD × Role => (reached ER (cell p.1 p.2) 0 : sProp 𝕄))
  simp only [bigSep_sep']
  iintro ⟨HI, ⟨Hat, HR⟩, Htok⟩
  ihave HI := (Entails.of_eq eI.symm) $$ HI
  ihave HR := (Entails.of_eq eR.symm) $$ HR
  icases HR with #HR
  ihave HK := (BI.bigSep_exists_pi Finset.univ (fun (p : Dev nD × Role) (κ : ℕ) => (cellInv ER (sched m) κ (cell p.1 p.2) : sProp 𝕄))) $$ HI
  icases HK with ⟨%K, #HI⟩
  ihave Htok := (deal_tokens (F := F)) $$ Htok
  iapply (bigSep_with_persistent (S := Finset.univ) (Φ := fun c : Dev nD => iprop(before (F := F) c ∗ due (F := F) c)) (Ψ := G' m)
    (R := iprop((bigSep Finset.univ fun p : Dev nD × Role => cellInv ER (sched m) (K p) (cell p.1 p.2))
      ∗ (bigSep Finset.univ fun p : Dev nD × Role => reached ER (cell p.1 p.2) 0)))
    fun c _ => exists_intro (Φ := fun K : Dev nD × Role → ℕ =>
      iprop(((bigSep Finset.univ fun p : Dev nD × Role => cellInv ER (sched m) (K p) (cell p.1 p.2))
        ∗ (bigSep Finset.univ fun p : Dev nD × Role => reached ER (cell p.1 p.2) 0)) ∗ before (F := F) c ∗ due (F := F) c)) K)
  isplitr
  · isplitr; · iexact HI
    iexact HR
  rw [bigSep_sep']
  isplitl [Hat] <;> iassumption

/-- Every device's semaphores and ghost holdings, dealt at once. -/
theorem deal : (bigSep Finset.univ fun c =>
      iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_device m c).trans (bigSep_fupd _ _)).trans (BI.fupd_mono (share_invariants m))

/-! ## The credit a device is owed -/

/-- What all devices owe one role at their neighbours comes, at a device, to what one of them owes. -/
theorem sum_tally (e : Dev nD ≃ Dev nD) (c : Dev nD) (ρ ρ' : Role) (n : ℕ) :
    (∑ d : Dev nD, (tallyAt (cell (e d) ρ') () n : CellTallies nD τ sig Unit) (cell c ρ) ()) = if ρ = ρ' then n else 0 := by
  have h : ∀ d : Dev nD, (tallyAt (cell (e d) ρ') () n : CellTallies nD τ sig Unit) (cell c ρ) ()
      = if d = e.symm c then (if ρ = ρ' then n else 0) else 0 := fun d => by
    have hc : (cell c ρ = cell (e d) ρ' ∧ () = ()) ↔ (d = e.symm c ∧ ρ = ρ') := by
      rw [cell_eq_iff, and_iff_left rfl, Equiv.eq_symm_apply, eq_comm]
    rw [tallyAt_apply, if_congr hc rfl rfl, ite_and]
  rw [Finset.sum_congr rfl fun d _ => h d, Finset.sum_ite_eq' Finset.univ (e.symm c), if_pos (Finset.mem_univ _)]

theorem sum_tallies (e : Dev nD ≃ Dev nD) (c : Dev nD) (ρ : Role) (r : Fin 38 → Role) :
    (∑ d : Dev nD, (∑ k : Fin 38, (tallyAt (cell (e d) (r k)) () (credit (r k)) : CellTallies nD τ sig Unit)) (cell c ρ) ())
      = ∑ k : Fin 38, if ρ = r k then credit (r k) else 0 := by
  simp only [Finset.sum_apply, Finsupp.finset_sum_apply]
  rw [Finset.sum_comm]
  exact Finset.sum_congr rfl fun k _ => sum_tally e c ρ (r k) _

theorem sum_owed (c : Dev nD) (ρ : Role) :
    (∑ d : Dev nD, owed0 d (cell c ρ) ())
      = (∑ k : Fin 38, if ρ = .xr k then credit (.xr k) else 0) + (∑ k : Fin 38, if ρ = .yr k then credit (.yr k) else 0)
        + (if ρ = .bar then 1 else 0) + (if ρ = .bar then 1 else 0) := by
  unfold owed0 owed1 owedSends owedX owedY
  simp only [Pi.add_apply, Finsupp.add_apply, Finset.sum_add_distrib, Finset.filter_true_of_mem fun (j : Fin 38) (_ : j ∈ Finset.univ) => Nat.zero_le j.val]
  exact congrArg₂ (· + ·) (congrArg₂ (· + ·) (congrArg₂ (· + ·) (sum_tallies permX c ρ Role.xr) (sum_tallies permY c ρ Role.yr))
    (sum_tally permY c ρ .bar 1)) (sum_tally permX c ρ .bar 1)

theorem launched (c : Dev nD) (ρ : Role) (n : ℕ) (h : (∑ d : Dev nD, owed0 d (cell c ρ) ()) = n) :
    tallyOn (cell c ρ) (launchCredit (Pipeline.owing owed0) 0 (cell c ρ)) = (tallyAt (cell c ρ) () n : CellTallies nD τ sig Unit) := by
  unfold tallyAt
  refine congrArg _ (Finsupp.ext fun u => ?_)
  cases u
  rw [Pipeline.launchCredit_owing, Finsupp.single_eq_same, h]

theorem credits_intro (c : Dev nD) : (Pipeline.launchCred owed0 c : sProp 𝕄) ⊢ credits (F := F) c := by
  have e : (Pipeline.launchCred owed0 c : sProp 𝕄)
      = bigSep Finset.univ fun ρ : Role => cred (tallyOn (cell c ρ) (launchCredit (Pipeline.owing owed0) 0 (cell c ρ))) := by
    unfold Pipeline.launchCred
    exact bigSep_univ_equiv roleSem fun sm : SemLoc sig =>
      (cred (tallyOn ((c : Thread nD τ), sm) (launchCredit (Pipeline.owing owed0) 0 ((c : Thread nD τ), sm))) : sProp 𝕄)
  rw [e, bigSep_role, launched c .bar 2 (by rw [sum_owed]; simp)]
  have hx : ∀ k : Fin 38, (∑ d : Dev nD, owed0 d (cell c (.xr k)) ()) = credit (.xr k) := fun k => by rw [sum_owed]; simp
  have hy : ∀ k : Fin 38, (∑ d : Dev nD, owed0 d (cell c (.yr k)) ()) = credit (.yr k) := fun k => by rw [sum_owed]; simp
  simp only [launched c (.xr _) _ (hx _), launched c (.yr _) _ (hy _)]
  unfold credits
  iintro ⟨Hb, -, ⟨-, Hx⟩, -, Hy⟩
  isplitl [Hb]; · iexact Hb
  isplitl [Hx] <;> iassumption

end Cert.AllGather

end
-- ==== Proof.Run.lean ====
/- The run of the kernel on the mesh: every device's result gathered, its argument unchanged, every semaphore at zero. -/
module

public import proofs.«01_k».proof.Proof.Deal
public import Idealize.ShloMosaic.Lib.Pipeline.Quiescent

@[expose] public section

noncomputable section

namespace Cert.AllGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (m : (ℓ : Loc nD τ sig) → Buf (Elt F) ℓ) (g : Dev nD → PrngReg)

/-! ## A device before and after its body -/

/-- What a device's body starts from, its staging buffer apart. -/
def starting (c : Dev nD) : sProp 𝕄 :=
  iprop((∃ K, known m K ∗ before (F := F) c ∗ due (F := F) c) ∗ credits (F := F) c ∗ argWhole m c ∗ outWhole (F := F) c (m ((c : Thread nD τ).loc main_v1)))
def Φ₀ (c : Dev nD) : sProp 𝕄 := iprop(starting m c ∗ scrWhole (F := F) c)
def Φ₁ (c : Dev nD) : sProp 𝕄 := iprop(zeros (F := F) c ∗ (argWhole m c ∗ outWhole (F := F) c (gathered m c)) ∗ scrWhole (F := F) c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed0 c
    | ⟨_ + 1, _⟩ => 0

theorem no_windows (Φ : Fin cfg0.W → sProp 𝕄) : bigSep Finset.univ Φ = iprop(emp) := by
  rw [show (Finset.univ : Finset (Fin cfg0.W)) = ∅ from rfl, bigSep_empty]
  rfl

set_option maxRecDepth 100000 in
/-- The body's obligation. -/
theorem body_holds (c : Dev nD) : BodyObligation (dats (F := F) m 0 c) (defs₀ (F := F)) 𝒱₀ () Set.univ := fun t => by
  rw [fin_N0 t, no_windows, no_windows]
  show iprop(Φ₀ m c ∗ (dats (F := F) m 0 c).owesAt () (t0_0 : Fin cfg0.N).castSucc ∗ emp)
    ⊢ runs c (bodyAt0 (F := F) t0_0) fun _ => iprop(Φ₁ m c ∗ (dats (F := F) m 0 c).owesAt () (t0_0 : Fin cfg0.N).succ ∗ emp)
  rw [bodyAt0_eq]
  unfold Φ₀ starting Dat.owesAt Pipeline.owesWithin
  rw [show (dats (F := F) m 0 c).owed (t0_0 : Fin cfg0.N).castSucc = owed0 c from rfl,
    show (dats (F := F) m 0 c).owed (t0_0 : Fin cfg0.N).succ = 0 from rfl]
  iintro ⟨⟨⟨⟨%K, HK, Hb, Hd⟩, Hc, Harg, Hout⟩, Hscr⟩, ⟨%W, -, HO⟩, -⟩
  iapply (wp_loops m K c (m ((c : Thread nD τ).loc main_v1))) $$ [HK HO Hc Hb Hd Harg Hout Hscr]
  · isplitl [HK]; · iexact HK
    isplitl [HO]; · unfold owing; iexists W; iexact HO
    isplitl [Hc]; · iexact Hc
    isplitl [Hb]; · iexact Hb
    isplitl [Hd]; · iexact Hd
    isplitl [Harg]; · iexact Harg
    isplitl [Hout] <;> iassumption
  unfold ended owing Φ₁
  iintro ⟨⟨%W', HO⟩, Hz, Harg, Hout, Hscr⟩
  isplitl [Hz Harg Hout Hscr]
  · isplitl [Hz]; · iexact Hz
    isplitl [Harg Hout]
    · isplitl [Harg] <;> iassumption
    iexact Hscr
  isplitl [HO]
  · iexists W'
    isplitr; · ipureintro; exact fun _ _ => Or.inl trivial
    iexact HO
  iempintro

/-! ## The launch's conditions -/

theorem own_facts : Pipeline.OwnSemFacts cfg0.spec osem :=
  ⟨by decide, fun a b h => by cases h; rfl, fun _ w => w.elim0⟩

theorem starts (c : Dev nD) :
    iprop(Pipeline.unscopedRestP Pipeline.Prefetch.none cfg0.spec c (fun b => m ((c : Thread nD τ).loc b)) ∗ levAts L lv
        ∗ Pipeline.launchCred owed0 c ∗ prngReg c (g c) ∗ G' m c)
      ⊢ |={Set.univ}=> iprop(starting m c ∗ emp) := by
  rw [Pipeline.unscopedRestP_none, unscopedRest0_eq]
  unfold G' starting known argWhole outWhole
  iintro ⟨⟨Harg, Hout⟩, Hlev, Hcr, -, ⟨%K, ⟨HI, HR⟩, Hb, Hd⟩⟩
  ihave Hc := (credits_intro (F := F) c) $$ Hcr
  imodintro
  isplitl
  · isplitl [HI HR Hlev Hb Hd]
    · iexists K
      isplitl [HI HR Hlev]
      · isplitl [HI]; · iexact HI
        isplitl [HR] <;> iassumption
      isplitl [Hb] <;> iassumption
    isplitl [Hc]; · iexact Hc
    isplitl [Harg]; · iexact Harg
    iexact Hout
  · iempintro

theorem enters (c : Dev nD) :
    iprop(starting m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrWhole
  iintro ⟨Hs, -, Hr⟩
  isplitl [Hs] <;> iassumption

/-- What a device holds at the end of the run. -/
def holds (c : Dev nD) : sProp 𝕄 := iprop(unscopedSems0 c ∗ argWhole m c ∗ outWhole (F := F) c (gathered m c))

theorem leaves (c : Dev nD) :
    (dats m 0 c).Φ (Fin.last cfg0.N) ⊢ iprop(holds m c ∗ Pipeline.ownSems0 osem c ∗ Pipeline.scopedRest cfg0.spec c) := by
  rw [show (dats m 0 c).Φ (Fin.last cfg0.N) = Φ₁ m c from rfl, scopedRest0_eq]
  unfold Φ₁ scrWhole holds
  rw [← zeros_eq]
  iintro ⟨⟨Hos, Hus⟩, ⟨Harg, Hout⟩, Hr⟩
  isplitl [Hus Harg Hout]
  · isplitl [Hus]; · iexact Hus
    isplitl [Harg] <;> iassumption
  isplitl [Hos] <;> iassumption

theorem waits (c : Dev nD) : (levAts L lv : sProp 𝕄) ⊢ Pipeline.cellsWaits cfgs (dats m) () 0 c :=
  Pipeline.cellsWaits_intro cfgs (dats m) () 0 c fun w => w.elim0

/-- What a final memory says of a device. -/
def Final (c : Dev nD) (s : MemSt nD τ sig (Elt F)) : Prop :=
  s.mem ((c : Thread nD τ).loc main_arg0) = arg m c ∧ s.mem ((c : Thread nD τ).loc main_v1) = gathered m c
    ∧ ∀ sm : SemLoc sig, sm.isScoped .tc = false → s.sem ((c : Thread nD τ), sm) = 0

theorem reads (c : Dev nD) (s : Phys nD τ sig (Elt F)) :
    iprop(holds m c ∗ emp ∗ SI s) ⊢ |={Set.univ}=> iprop(⌜Final m c s.mem⌝ ∗ SI s) := by
  unfold holds argWhole outWhole
  iintro ⟨⟨Hu, Ha, Ho⟩, -, HSI⟩
  icombine HSI Ha gives %ha
  icombine HSI Ho gives %ho
  ihave %hu := (tcUnscoped_read c s) $$ [Hu HSI]
  · isplitl [Hu] <;> iassumption
  imodintro
  isplitr
  · ipureintro; exact ⟨Buf.eq_of_forall_mem_univ ha, Buf.eq_of_forall_mem_univ ho, hu⟩
  iexact HSI

/-! ## The run -/

set_option maxRecDepth 100000 in
/-- From any memory with every semaphore at zero, for any float values, every run ends, with every device's result gathered, its
    argument unchanged and every semaphore at zero. -/
theorem run_main : θ_run defs (onTc (τ := τ) (main (F := F))) ⟨m, fun _ => 0, g⟩ (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ own_facts (Pipeline.PreFacts.none _) EP defs₀ 𝒱₀ m g main
    (hmain := fun _ => rfl)
    (hbody := body_holds m) (hne := fun w => w.elim0) (harr := arr_whole0) (hstage := stage_whole0) (hshare := fun _ w => w.elim0)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := deal m)
    (hA := fun _ w => w.elim0) (hpf := fun _ k => k.elim0)
    (X := starting m) (Y := holds m) (Z := fun _ => iprop(emp))
    (hX := starts m g) (hin := enters m) (hout := leaves m)
    (QY := Final m)
    (hY := reads m)
    (hQ := fun _ h hs => ⟨fun c => (h c).2.2, sem_eq_zero hs fun c => (h c).2.2.2.2⟩)

end Cert.AllGather

end
-- ==== Proof.Value.lean ====
/- What the gathered array is: the whole array that the devices' arguments are the blocks of. And the run of the reference,
   which returns its argument. -/
module

public import proofs.«01_k».proof.Defs
public import proofs.«01_k».proof.Proof.Run
public import proofs.«01_k».proof.Proof.Gen.Kernel
public import proofs.«01_k».proof.Proof.Gen.ReferenceIdeal
public import Idealize.ShloMosaic.Lib.StableHlo.Run
public import Idealize.ShloMosaic.Lib.Layout

@[expose] public section

noncomputable section

namespace Cert.AllGather

open Cert.KernelIdeal Cert.KernelIdeal.Gen
open Idealize.ShloMosaic
open Idealize.ShloMosaic.TcCoe
open Idealize.SL.Sem

variable {F : FTy → Type} [FloatOps F]

/-! ## The gathered array -/

/-- One device's rows lie twice over in the whole array. -/
theorem halves : Layout.TilesN (⟨2, ![32768, 1024]⟩ : Shape) ⟨2, ![65536, 1024]⟩
    (fun b => Layout.cutSize [2, 2] ((![[0], []] : Fin 2 → List Nat) b)) := by decide

/-- Device `c` holds the half that its first mesh coordinate names. -/
theorem half_of : ∀ c : Fin 4, ((Layout.meshBlock [2, 2] ![[0], []] c) 0).val = c.val / 2 := by decide

/-- No device's columns are cut. -/
theorem columns_of : ∀ c : Fin 4, ((Layout.meshBlock [2, 2] ![[0], []] c) 1).val = 0 := by decide

/-- The device that row `r` of the result comes from holds the half that row `r` lies in. -/
theorem source_half (c : Dev nD) (r : ℕ) (hr : r < 65536) : (source c r).val / 2 = r / 32768 := by
  have hc := dev_lt c
  rw [source_val]
  split_ifs with h <;> omega

/-- The element of the source's block that element `i` of the result is lies at `i` in the whole array. -/
theorem place_of (c : Dev nD) (i : (main_v1 : Ref sig .tc).ty.Idx) :
    halves.idx (Layout.meshBlock [2, 2] ![[0], []] (source c (i 0).val)) (within i) = i := by
  funext b
  apply Fin.ext
  rw [Layout.TilesN.idx_val]
  have hi : (i 0).val < 65536 := (i 0).isLt
  rcases b with ⟨_ | _ | n, hb⟩
  · have h1 := half_of (source c (i 0).val)
    have h2 := source_half c _ hi
    show ((Layout.meshBlock [2, 2] ![[0], []] (source c (i 0).val)) 0).val * 32768 + (i 0).val % 32768 = (i 0).val
    rw [h1, h2]; omega
  · show ((Layout.meshBlock [2, 2] ![[0], []] (source c (i 0).val)) 1).val * 1024 + (i 1).val = (i 1).val
    rw [columns_of]; omega
  · exact absurd hb (by simp)

/-- Where every device's argument is its block of one array, every device gathers that array. -/
theorem gathered_eq (m : (ℓ : Loc nD τ sig) → Buf (Elt F) ℓ) (whole : Buf (Elt F) (((0 : Dev nD) : Thread nD τ).loc main_v1))
    (h : ∀ c : Dev nD, m ((c : Thread nD τ).loc main_arg0)
      = Layout.blockN ⟨2, ![32768, 1024]⟩ ⟨2, ![65536, 1024]⟩ (Layout.meshBlock [2, 2] ![[0], []] c) whole) (c : Dev nD) :
    gathered m c = whole := by
  funext i
  show m ((source c (i 0).val : Thread nD τ).loc main_arg0) (within i) = whole i
  rw [h]
  exact congrArg whole (place_of c i)

/-! ## The reference -/

/-- The reference is a program of no operations. -/
theorem reference_ops (d : Dev Cert.ReferenceIdeal.nD) :
    Cert.ReferenceIdeal.main (F := F) d = StableHlo.seq ([] : List (HloOp Cert.ReferenceIdeal.τ Cert.ReferenceIdeal.sig (Elt F))) := rfl

/-- The reference ends with its argument, which is its result, what it was, and every semaphore at zero. -/
theorem run_reference (m : (ℓ : Loc Cert.ReferenceIdeal.nD Cert.ReferenceIdeal.τ Cert.ReferenceIdeal.sig) → Buf (Elt F) ℓ)
    (g : Dev Cert.ReferenceIdeal.nD → PrngReg) :
    θ_run Cert.ReferenceIdeal.defs (onTc (τ := Cert.ReferenceIdeal.τ) (Cert.ReferenceIdeal.main (F := F))) ⟨m, fun _ => 0, g⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0))
      ∧ r.2.sem = fun _ => 0 :=
  (θ_run Cert.ReferenceIdeal.defs _ _).mono
    (fun r h => ⟨fun c => h c Cert.ReferenceIdeal.main_arg0, sem_eq_zero_of_no_sems (by decide) r.2⟩)
    (StableHlo.run_seq (by decide) (by decide) Cert.ReferenceIdeal.defs Cert.ReferenceIdeal.main (fun _ => []) reference_ops
      (fun _ => trivial) m g)

/-! ## The claims -/

/-- The kernel as printed: it ends, with every argument unchanged and every semaphore at zero. -/
theorem frame_kernel : Cert.quiescent_Kernel := fun m g _ =>
  (θ_run Cert.KernelIdeal.defs _ _).mono (fun _ h => ⟨fun c => (h.1 c).1, h.2⟩) (run_main (F := Bits) m g)

/-- The same of the kernel over the extended reals. -/
theorem frame_ideal : Cert.quiescent_KernelIdeal := fun m g _ =>
  (θ_run Cert.KernelIdeal.defs _ _).mono (fun _ h => ⟨fun c => (h.1 c).1, h.2⟩) (run_main (F := Ideal) m g)

/-- The same of the reference. -/
theorem frame_reference : Cert.quiescent_ReferenceIdeal := fun m g _ => run_reference m g

/-- Every device's result is the whole array, as the reference returns it. -/
theorem values : Cert.algebraic_KernelIdeal_ReferenceIdeal := by
  intro m g m' g' _ h
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono (fun _ hr c => ⟨(hr.1 c).2.1.trans (gathered_eq m _ h c), (hr.1 c).1⟩)
      (run_main (F := Ideal) m g)
  · exact (θ_run Cert.ReferenceIdeal.defs _ _).mono (fun _ hr => ⟨hr.1 0, hr.1 0⟩) (run_reference (F := Ideal) m' g')

end Cert.AllGather

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Cert.AllGather

/-- The five claims. -/
theorem claim : Cert.Claim :=
  ⟨Cert.Kernel.Gen.facts, Cert.KernelIdeal.Gen.facts, Cert.ReferenceIdeal.Gen.facts,
    frame_kernel, frame_ideal, frame_reference, trivial, values⟩

end Cert.Proof

end
